-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![512, 64]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 64]⟩ ⟨2, ![512, 64]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S256x128 : Shape := ⟨2, ![256, 128]⟩
abbrev S3 : Shape := ⟨1, ![3]⟩
abbrev S_ : Shape := ⟨0, ![]⟩
abbrev S64x64 : Shape := ⟨2, ![64, 64]⟩
abbrev S64x128 : Shape := ⟨2, ![64, 128]⟩
abbrev S1 : Shape := ⟨1, ![1]⟩
abbrev S128x128 : Shape := ⟨2, ![128, 128]⟩

abbrev nBuf : Space → Nat
  | .hbm => 2
  | .vmem => 3
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S256x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_157 : BitVec 32 := 64#32
  let v482 : BitVec 32 := Scalar.muli v2 c64_i32_157
  let v483 : Index := Scalar.indexCast v482
  let c0_158 : Index := 0#32
  ![v483.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_160 : BitVec 32 := 64#32
  let v488 : BitVec 32 := Scalar.muli v2 c64_i32_160
  let c0_i32_172 : BitVec 32 := 0#32
  ![v488.toNat, 0]
def k0_dev4 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_161 : BitVec 32 := 1#32
  let v489 : BitVec 32 := Scalar.addi v2 c1_i32_161
  let c4_i32_162 : BitVec 32 := 4#32
  let c0_i32_163 : BitVec 32 := 0#32
  let v490 : BitVec 1 := Scalar.cmpi .eq c4_i32_162 c0_i32_163
  let c1_i32_164 : BitVec 32 := 1#32
  let v491 : BitVec 32 := Scalar.select v490 c1_i32_164 c4_i32_162
  let v492 : BitVec 32 := Scalar.remsi v489 v491
  let c0_i32_166 : BitVec 32 := 0#32
  let v494 : BitVec 1 := Scalar.cmpi .slt v492 c0_i32_166
  let c0_i32_167 : BitVec 32 := 0#32
  let v495 : BitVec 1 := Scalar.cmpi .slt v491 c0_i32_167
  let v496 : BitVec 1 := Scalar.xori v494 v495
  let c0_i32_165 : BitVec 32 := 0#32
  let v493 : BitVec 1 := Scalar.cmpi .ne v492 c0_i32_165
  let v497 : BitVec 1 := Scalar.andi v496 v493
  let v498 : BitVec 32 := Scalar.addi v492 v491
  let v499 : BitVec 32 := Scalar.select v497 v498 v492
  let c1_i32_170 : BitVec 32 := 1#32
  let v500 : BitVec 32 := Scalar.muli v499 c1_i32_170
  let v501 : BitVec 32 := Scalar.addi c0_i32_171 v500
  v501.toNat
def k0_dev5 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_176 : BitVec 32 := 2#32
  let v510 : BitVec 32 := Scalar.addi v2 c2_i32_176
  let c4_i32_177 : BitVec 32 := 4#32
  let c0_i32_178 : BitVec 32 := 0#32
  let v511 : BitVec 1 := Scalar.cmpi .eq c4_i32_177 c0_i32_178
  let c1_i32_179 : BitVec 32 := 1#32
  let v512 : BitVec 32 := Scalar.select v511 c1_i32_179 c4_i32_177
  let v513 : BitVec 32 := Scalar.remsi v510 v512
  let c0_i32_181 : BitVec 32 := 0#32
  let v515 : BitVec 1 := Scalar.cmpi .slt v513 c0_i32_181
  let c0_i32_182 : BitVec 32 := 0#32
  let v516 : BitVec 1 := Scalar.cmpi .slt v512 c0_i32_182
  let v517 : BitVec 1 := Scalar.xori v515 v516
  let c0_i32_180 : BitVec 32 := 0#32
  let v514 : BitVec 1 := Scalar.cmpi .ne v513 c0_i32_180
  let v518 : BitVec 1 := Scalar.andi v517 v514
  let v519 : BitVec 32 := Scalar.addi v513 v512
  let v520 : BitVec 32 := Scalar.select v518 v519 v513
  let c1_i32_185 : BitVec 32 := 1#32
  let v521 : BitVec 32 := Scalar.muli v520 c1_i32_185
  let v522 : BitVec 32 := Scalar.addi c0_i32_186 v521
  v522.toNat
def k0_dev6 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_191 : BitVec 32 := 3#32
  let v531 : BitVec 32 := Scalar.addi v2 c3_i32_191
  let c4_i32_192 : BitVec 32 := 4#32
  let c0_i32_193 : BitVec 32 := 0#32
  let v532 : BitVec 1 := Scalar.cmpi .eq c4_i32_192 c0_i32_193
  let c1_i32_194 : BitVec 32 := 1#32
  let v533 : BitVec 32 := Scalar.select v532 c1_i32_194 c4_i32_192
  let v534 : BitVec 32 := Scalar.remsi v531 v533
  let c0_i32_196 : BitVec 32 := 0#32
  let v536 : BitVec 1 := Scalar.cmpi .slt v534 c0_i32_196
  let c0_i32_197 : BitVec 32 := 0#32
  let v537 : BitVec 1 := Scalar.cmpi .slt v533 c0_i32_197
  let v538 : BitVec 1 := Scalar.xori v536 v537
  let c0_i32_195 : BitVec 32 := 0#32
  let v535 : BitVec 1 := Scalar.cmpi .ne v534 c0_i32_195
  let v539 : BitVec 1 := Scalar.andi v538 v535
  let v540 : BitVec 32 := Scalar.addi v534 v533
  let v541 : BitVec 32 := Scalar.select v539 v540 v534
  let c1_i32_200 : BitVec 32 := 1#32
  let v542 : BitVec 32 := Scalar.muli v541 c1_i32_200
  let v543 : BitVec 32 := Scalar.addi c0_i32_201 v542
  v543.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_220 : BitVec 32 := 0#32
  let v563 : BitVec 1 := Scalar.cmpi .sgt v2 c0_i32_220
  let v564 : BitVec 32 := Scalar.extui v563
  let c0_i32_221 : BitVec 32 := 0#32
  let v565 : BitVec 1 := Scalar.cmpi .slt v2 c0_i32_221
  let v566 : BitVec 32 := Scalar.extui v565
  let v567 : BitVec 32 := Scalar.subi v564 v566
  let c2_i32_219 : BitVec 32 := 2#32
  let c0_i32_222 : BitVec 32 := 0#32
  let v568 : BitVec 1 := Scalar.cmpi .sgt c2_i32_219 c0_i32_222
  let v569 : BitVec 32 := Scalar.extui v568
  let c0_i32_223 : BitVec 32 := 0#32
  let v570 : BitVec 1 := Scalar.cmpi .slt c2_i32_219 c0_i32_223
  let v571 : BitVec 32 := Scalar.extui v570
  let v572 : BitVec 32 := Scalar.subi v569 v571
  let v573 : BitVec 1 := Scalar.cmpi .ne v567 v572
  let v574 : BitVec 32 := Scalar.remsi v2 c2_i32_219
  let c0_i32_224 : BitVec 32 := 0#32
  let v575 : BitVec 1 := Scalar.cmpi .ne v574 c0_i32_224
  let v576 : BitVec 1 := Scalar.andi v573 v575
  let v562 : BitVec 32 := Scalar.divsi v2 c2_i32_219
  let c1_i32_225 : BitVec 32 := 1#32
  let v577 : BitVec 32 := Scalar.subi v562 c1_i32_225
  let v578 : BitVec 32 := Scalar.select v576 v577 v562
  let c2_i32_238 : BitVec 32 := 2#32
  let v591 : BitVec 32 := Scalar.muli v578 c2_i32_238
  let c64_i32_239 : BitVec 32 := 64#32
  let v592 : BitVec 32 := Scalar.muli v591 c64_i32_239
  let v593 : Index := Scalar.indexCast v592
  let c0_240 : Index := 0#32
  ![v593.toNat, 0]
def k0_off4 (d0 : Dev nD) : Fin 2 → Nat :=
  let c1_i32_284 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_220 : BitVec 32 := 0#32
  let v563 : BitVec 1 := Scalar.cmpi .sgt v2 c0_i32_220
  let v564 : BitVec 32 := Scalar.extui v563
  let c0_i32_221 : BitVec 32 := 0#32
  let v565 : BitVec 1 := Scalar.cmpi .slt v2 c0_i32_221
  let v566 : BitVec 32 := Scalar.extui v565
  let v567 : BitVec 32 := Scalar.subi v564 v566
  let c2_i32_219 : BitVec 32 := 2#32
  let c0_i32_222 : BitVec 32 := 0#32
  let v568 : BitVec 1 := Scalar.cmpi .sgt c2_i32_219 c0_i32_222
  let v569 : BitVec 32 := Scalar.extui v568
  let c0_i32_223 : BitVec 32 := 0#32
  let v570 : BitVec 1 := Scalar.cmpi .slt c2_i32_219 c0_i32_223
  let v571 : BitVec 32 := Scalar.extui v570
  let v572 : BitVec 32 := Scalar.subi v569 v571
  let v573 : BitVec 1 := Scalar.cmpi .ne v567 v572
  let v574 : BitVec 32 := Scalar.remsi v2 c2_i32_219
  let c0_i32_224 : BitVec 32 := 0#32
  let v575 : BitVec 1 := Scalar.cmpi .ne v574 c0_i32_224
  let v576 : BitVec 1 := Scalar.andi v573 v575
  let v562 : BitVec 32 := Scalar.divsi v2 c2_i32_219
  let c1_i32_225 : BitVec 32 := 1#32
  let v577 : BitVec 32 := Scalar.subi v562 c1_i32_225
  let v578 : BitVec 32 := Scalar.select v576 v577 v562
  let v726 : BitVec 32 := Scalar.subi c1_i32_284 v578
  let c2_i32_285 : BitVec 32 := 2#32
  let v727 : BitVec 32 := Scalar.muli v726 c2_i32_285
  let c64_i32_286 : BitVec 32 := 64#32
  let v728 : BitVec 32 := Scalar.muli v727 c64_i32_286
  let v729 : Index := Scalar.indexCast v728
  let c0_287 : Index := 0#32
  ![v729.toNat, 0]
abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x64 : Shape := ⟨2, ![512, 64]⟩

abbrev nBuf : Space → Nat
  | .hbm => 2
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
/- The kernel's body as one short sequence of memory operations. The printed body comes in parts cut at
   arbitrary statements; here its pure stretches are collected into five vector functions (the local sort,
   the merge of the pair a device belongs to, the merge of the other pair, the exchange over all rows, the
   last merge of a device's own block) and the sequence of signals, waits, copies, loads and stores between
   them is written out once. -/
module

public import proofs.«01_k».proof.KernelIdeal
public import proofs.«01_k».proof.Proof.Gen.KernelIdeal
public import proofs.«01_k».proof.Proof.Gen.KernelIdeal.Skeleton
public import Idealize.ShloMosaic.Lib.Tactic

@[expose] public section

set_option maxRecDepth 65536

noncomputable section

namespace Cert.Merge

open Idealize.ShloMosaic Idealize.SL.Sem
open Cert.KernelIdeal Cert.KernelIdeal.Gen

variable {F : FTy → Type} [FloatOps F]

/-- A device's position on the axis, as the word the kernel computes from its id. -/
def posWord (c : Dev nD) : BitVec 32 := Scalar.remsi (Scalar.divsi (Dev.word c) 1#32) 4#32

/-- Whether the device is an odd one, as the kernel computes it (the remainder by two, corrected for sign). -/
def oddWord (c : Dev nD) : BitVec 1 :=
  let m : BitVec 32 := Scalar.select (Scalar.cmpi .eq 2#32 0#32) 1#32 2#32
  let r : BitVec 32 := Scalar.remsi (posWord c) m
  let neg : BitVec 1 := Scalar.andi (Scalar.xori (Scalar.cmpi .slt r 0#32) (Scalar.cmpi .slt m 0#32)) (Scalar.cmpi .ne r 0#32)
  Scalar.cmpi .eq (Scalar.select neg (Scalar.addi r m) r) 1#32

/-- The pair the device belongs to, as the kernel computes it (the quotient by two, rounded down). -/
def pairWord (c : Dev nD) : BitVec 32 :=
  let q : BitVec 32 := Scalar.divsi (posWord c) 2#32
  let sg : BitVec 32 := Scalar.subi (Scalar.extui (Scalar.cmpi .sgt (posWord c) 0#32)) (Scalar.extui (Scalar.cmpi .slt (posWord c) 0#32))
  let sd : BitVec 32 := Scalar.subi (Scalar.extui (Scalar.cmpi .sgt 2#32 0#32)) (Scalar.extui (Scalar.cmpi .slt 2#32 0#32))
  let low : BitVec 1 := Scalar.andi (Scalar.cmpi .ne sg sd) (Scalar.cmpi .ne (Scalar.remsi (posWord c) 2#32) 0#32)
  Scalar.select low (Scalar.subi q 1#32) q

/-- The local sort: the block packed into 64 rows of 128 lanes, after every exchange a device makes alone. -/
def localVal (b : BitVec 1) (x : Vec F S128x64 .f32) : FVec F S64x128 .f32 :=
  let rows : IVec S64x128 32 := iota .tc S64x128 32 [0] iota_S64x128_d0_w32
  let lanes : IVec S64x128 32 := iota .tc S64x128 32 [1] iota_S64x128_d1_w32
  let v3 := k0_pay7 (k0_pay4 x) b rows k0_pay5 k0_pay6 0#32
  let v4 := k0_pay10 b v3 (k0_pay8 rows) k0_pay9
  let v5 := k0_pay14 b v4 (k0_pay11 rows) k0_pay12
  let v6 := k0_pay17 b rows (k0_pay13 (k0_pay11 rows) k0_pay12) v5 k0_pay15 0#32
  let v7 := k0_pay19 b (k0_pay16 rows) v6 k0_pay18 0#32
  let asc := k0_pay20 lanes
  let v9 := k0_pay26 b asc (k0_pay22 b v7 asc k0_pay21 0#32) k0_pay23 (k0_pay24 b v7 asc k0_pay21 0#32) (k0_pay25 b v7 asc k0_pay21 0#32)
  k0_pay29 (k0_pay28 b (k0_pay27 b v9))

/-- What a device stores over the 128 rows of its own pair, from what it loads there. -/
def nearVal (w : BitVec 32) (v : Vec F S128x128 .f32) : FVec F S128x128 .f32 :=
  let b : BitVec 1 := Scalar.cmpi .eq w 1#32
  let x1 := k0_pay30 w v
  let x2 := k0_pay31 w v
  let y1 := k0_pay33 b x1 x2 k0_pay32
  let y2 := k0_pay35 b x1 x2 k0_pay32
  k0_pay41 b (k0_pay37 b y1 y2 k0_pay36) (k0_pay39 b y1 y2 k0_pay36) k0_pay40

/-- What a device stores over the 128 rows of the other pair, from what it loads there. -/
def farVal (w : BitVec 32) (v : Vec F S128x128 .f32) : FVec F S128x128 .f32 :=
  let b : BitVec 1 := Scalar.cmpi .eq w 0#32
  let lanes : IVec S128x128 32 := iota .tc S128x128 32 [1] iota_S128x128_d1_w32
  k0_pay47 b (k0_pay45 b (k0_pay43 b (k0_pay42 w v) lanes) k0_pay44) k0_pay46

/-- What a device stores over all 256 rows, from what it loads there. -/
def wholeVal (v : Vec F S256x128 .f32) : FVec F S256x128 .f32 := k0_pay50 (k0_pay48 v) k0_pay49 64#32

/-- The four values the last exchange is made of, from the device's own block: the rows before it, their
    bit, their partners from below and the rotation of the partners from above. -/
def lastA (v : Vec F S64x128 .f32) : FVec F S64x128 .f32 :=
  let x1 := k0_pay51 v
  let x2 := k0_pay53 v
  k0_pay59 (k0_pay55 x1 x2 k0_pay54) (k0_pay57 x1 x2 k0_pay54) k0_pay58

/-- See `lastA`. -/
def lastB (v : Vec F S64x128 .f32) : FVec F S64x128 .f32 :=
  let x1 := k0_pay51 v
  let x2 := k0_pay53 v
  k0_pay61 (k0_pay55 x1 x2 k0_pay54) (k0_pay57 x1 x2 k0_pay54) k0_pay58

/-- The left 64 lanes of the device's own block after the last merge. -/
def leftVal (v : Vec F S64x128 .f32) : FVec F S64x64 .f32 := k0_pay2 (lastA v) k0_pay60 (lastB v) 63#32

/-- The right 64 lanes of the device's own block after the last merge. -/
def rightVal (v : Vec F S64x128 .f32) : FVec F S64x64 .f32 := k0_pay3 (lastA v) k0_pay60 (lastB v) 63#32

/-- The window the device's own block has in the gather buffer, as the copies name it. -/
abbrev ownWin (arg2 : Memref sig .tc .vmem S256x128 .f32) (c : Dev nD) : Memref sig .tc .vmem S64x128 .f32 :=
  arg2.slice (Rect.unit (s := S256x128) (k0_off2 c) S64x128.size (k0_off2_inb c)) (fun _ => rfl)

/-- The body's sequence of operations. -/
def steps (arg0 : Memref sig .tc .vmem S128x64 .f32) (arg1 : Memref sig .tc .vmem S128x64 .f32)
    (arg2 : Memref sig .tc .vmem S256x128 .f32) (arg3 : DmaSems sig S3) (arg4 : DmaSems sig S3) :
    Prog (TpuEff nD τ sig (Elt F) Λ₀ .tc) PUnit := do
  let c : Dev nD ← Prog.lift .deviceId
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semSignalWord (⟨k0_dev3 c, k0_dev3_lt c⟩ : Dev nD) (SemArray.scalar (sig.barrier 0 rfl) : Sems sig S_).sem 1#32
  semWaitWord (SemArray.scalar (sig.barrier 0 rfl) : Sems sig S_).sem 3#32
  let x : Vec F S128x64 .f32 ← Prog.lift (.load arg0 (Rect.unit (s := S128x64) ![0, 0] S128x64.size inb_S128x64_S128x64_0_0).toLoadRect (View.loadsAt_vmem h_S128x64))
  let _ : Vec F S64x128 .f32 ← Prog.lift (.load arg2 (Rect.unit (s := S256x128) (k0_off1 c) S64x128.size (k0_off1_inb c)).toLoadRect (View.loadsAt_vmem h_S64x128))
  Prog.lift (.store arg2 (Rect.unit (s := S256x128) (k0_off1 c) S64x128.size (k0_off1_inb c)) (localVal (oddWord c) x) Finset.univ (View.stores_vmem_bits_univ h_S64x128 rfl) (.inl rfl))
  Prog.lift (.enqueueDma (ownWin arg2 c) (.remote (Dev.tc (⟨k0_dev4 c, k0_dev4_lt c⟩ : Dev nD)) (ownWin arg2 c) (.dma ((arg3.slice (Rect.unit (s := S3) ![0] S1.size inb_S3_S1_0)).squeeze S_ squeezes_S1_S_).sem)) (.dma ((arg4.slice (Rect.unit (s := S3) ![0] S1.size inb_S3_S1_0)).squeeze S_ squeezes_S1_S_).sem) (View.wordExact_bits rfl) (View.wordExact_bits rfl) ⟨⟨rfl, Or.inl rfl⟩, trivial⟩)
  Prog.lift (.enqueueDma (ownWin arg2 c) (.remote (Dev.tc (⟨k0_dev5 c, k0_dev5_lt c⟩ : Dev nD)) (ownWin arg2 c) (.dma ((arg3.slice (Rect.unit (s := S3) ![1] S1.size inb_S3_S1_1)).squeeze S_ squeezes_S1_S_).sem)) (.dma ((arg4.slice (Rect.unit (s := S3) ![1] S1.size inb_S3_S1_1)).squeeze S_ squeezes_S1_S_).sem) (View.wordExact_bits rfl) (View.wordExact_bits rfl) ⟨⟨rfl, Or.inl rfl⟩, trivial⟩)
  Prog.lift (.enqueueDma (ownWin arg2 c) (.remote (Dev.tc (⟨k0_dev6 c, k0_dev6_lt c⟩ : Dev nD)) (ownWin arg2 c) (.dma ((arg3.slice (Rect.unit (s := S3) ![2] S1.size inb_S3_S1_2)).squeeze S_ squeezes_S1_S_).sem)) (.dma ((arg4.slice (Rect.unit (s := S3) ![2] S1.size inb_S3_S1_2)).squeeze S_ squeezes_S1_S_).sem) (View.wordExact_bits rfl) (View.wordExact_bits rfl) ⟨⟨rfl, Or.inl rfl⟩, trivial⟩)
  Prog.lift (.waitDma2 ((arg3.slice (Rect.unit (s := S3) ![0] S1.size inb_S3_S1_0)).squeeze S_ squeezes_S1_S_).sem (ownWin arg2 c) (ownWin arg2 c) (View.wordExact_bits rfl) (View.wordExact_bits rfl))
  Prog.lift (.waitDma2 ((arg3.slice (Rect.unit (s := S3) ![1] S1.size inb_S3_S1_1)).squeeze S_ squeezes_S1_S_).sem (ownWin arg2 c) (ownWin arg2 c) (View.wordExact_bits rfl) (View.wordExact_bits rfl))
  Prog.lift (.waitDma2 ((arg3.slice (Rect.unit (s := S3) ![2] S1.size inb_S3_S1_2)).squeeze S_ squeezes_S1_S_).sem (ownWin arg2 c) (ownWin arg2 c) (View.wordExact_bits rfl) (View.wordExact_bits rfl))
  Prog.lift (.waitDma2 ((arg4.slice (Rect.unit (s := S3) ![0] S1.size inb_S3_S1_0)).squeeze S_ squeezes_S1_S_).sem (ownWin arg2 c) (ownWin arg2 c) (View.wordExact_bits rfl) (View.wordExact_bits rfl))
  Prog.lift (.waitDma2 ((arg4.slice (Rect.unit (s := S3) ![2] S1.size inb_S3_S1_2)).squeeze S_ squeezes_S1_S_).sem (ownWin arg2 c) (ownWin arg2 c) (View.wordExact_bits rfl) (View.wordExact_bits rfl))
  let near : Vec F S128x128 .f32 ← Prog.lift (.load arg2 (Rect.unit (s := S256x128) (k0_off3 c) S128x128.size (k0_off3_inb c)).toLoadRect (View.loadsAt_vmem h_S128x128))
  let _ : Vec F S128x128 .f32 ← Prog.lift (.load arg2 (Rect.unit (s := S256x128) (k0_off3 c) S128x128.size (k0_off3_inb c)).toLoadRect (View.loadsAt_vmem h_S128x128))
  Prog.lift (.store arg2 (Rect.unit (s := S256x128) (k0_off3 c) S128x128.size (k0_off3_inb c)) (nearVal (pairWord c) near) Finset.univ (View.stores_vmem_bits_univ h_S128x128 rfl) (.inl rfl))
  Prog.lift (.waitDma2 ((arg4.slice (Rect.unit (s := S3) ![1] S1.size inb_S3_S1_1)).squeeze S_ squeezes_S1_S_).sem (ownWin arg2 c) (ownWin arg2 c) (View.wordExact_bits rfl) (View.wordExact_bits rfl))
  let far : Vec F S128x128 .f32 ← Prog.lift (.load arg2 (Rect.unit (s := S256x128) (k0_off4 c) S128x128.size (k0_off4_inb c)).toLoadRect (View.loadsAt_vmem h_S128x128))
  let _ : Vec F S128x128 .f32 ← Prog.lift (.load arg2 (Rect.unit (s := S256x128) (k0_off4 c) S128x128.size (k0_off4_inb c)).toLoadRect (View.loadsAt_vmem h_S128x128))
  Prog.lift (.store arg2 (Rect.unit (s := S256x128) (k0_off4 c) S128x128.size (k0_off4_inb c)) (farVal (pairWord c) far) Finset.univ (View.stores_vmem_bits_univ h_S128x128 rfl) (.inl rfl))
  let all : Vec F S256x128 .f32 ← Prog.lift (.load arg2 (Rect.unit (s := S256x128) ![0, 0] S256x128.size inb_S256x128_S256x128_0_0).toLoadRect (View.loadsAt_vmem h_S256x128))
  let _ : Vec F S256x128 .f32 ← Prog.lift (.load arg2 (Rect.unit (s := S256x128) ![0, 0] S256x128.size inb_S256x128_S256x128_0_0).toLoadRect (View.loadsAt_vmem h_S256x128))
  Prog.lift (.store arg2 (Rect.unit (s := S256x128) ![0, 0] S256x128.size inb_S256x128_S256x128_0_0) (wholeVal all) Finset.univ (View.stores_vmem_bits_univ h_S256x128 rfl) (.inl rfl))
  let own : Vec F S64x128 .f32 ← Prog.lift (.load arg2 (Rect.unit (s := S256x128) (k0_off1 c) S64x128.size (k0_off1_inb c)).toLoadRect (View.loadsAt_vmem h_S64x128))
  let _ : Vec F S64x64 .f32 ← Prog.lift (.load arg1 (Rect.unit (s := S128x64) ![0, 0] S64x64.size inb_S128x64_S64x64_0_0).toLoadRect (View.loadsAt_vmem h_S64x64))
  Prog.lift (.store arg1 (Rect.unit (s := S128x64) ![0, 0] S64x64.size inb_S128x64_S64x64_0_0) (leftVal own) Finset.univ (View.stores_vmem_bits_univ h_S64x64 rfl) (.inl rfl))
  let _ : Vec F S64x64 .f32 ← Prog.lift (.load arg1 (Rect.unit (s := S128x64) ![64, 0] S64x64.size inb_S128x64_S64x64_64_0).toLoadRect (View.loadsAt_vmem h_S64x64))
  Prog.lift (.store arg1 (Rect.unit (s := S128x64) ![64, 0] S64x64.size inb_S128x64_S64x64_64_0) (rightVal own) Finset.univ (View.stores_vmem_bits_univ h_S64x64 rfl) (.inl rfl))
  pure ⟨⟩

/-- The kernel's body is that sequence. -/
theorem body_eq_steps (arg0 : Memref sig .tc .vmem S128x64 .f32) (harg0 : arg0.IsWhole)
    (arg1 : Memref sig .tc .vmem S128x64 .f32) (harg1 : arg1.IsWhole)
    (arg2 : Memref sig .tc .vmem S256x128 .f32) (harg2 : arg2.IsWhole) (arg3 : DmaSems sig S3) (arg4 : DmaSems sig S3) :
    cc0_body (F := F) arg0 harg0 arg1 harg1 arg2 harg2 arg3 arg4 = steps arg0 arg1 arg2 arg3 arg4 := by
  rfl

end Cert.Merge

end
-- ==== Proof.Exchange.lean ====
/- The five vector functions of the body, written as chains of two kinds of compare-exchange: one between rows
   whose numbers differ in one bit, one between the two lane halves. Each chain is what the kernel computes, by
   unfolding; nothing about order is used here, so it holds at every float semantics. -/
module

public import proofs.«01_k».proof.Proof.Steps

@[expose] public section

set_option maxRecDepth 65536

noncomputable section

namespace Cert.Merge

open Idealize.ShloMosaic Idealize.SL.Sem
open Cert.KernelIdeal Cert.KernelIdeal.Gen

variable {F : FTy → Type} [FloatOps F]

/-- `m` rows of 128 lanes. -/
abbrev Rows (m : Nat) : Shape := ⟨2, ![m, 128]⟩

/-- Whether the coordinate on axis `d` has a bit of the mask `j`. -/
def hasBit (m : Nat) (d : Fin 2) (hi : (Rows m).Iotas .tc 32 [d]) (j : BitVec 32) : IVec (Rows m) 1 :=
  cmpi .ne (andi (iota .tc (Rows m) 32 [d] hi) (broadcast (Rows m) j)) (broadcast (Rows m) 0#32)

/-- Whether the coordinate on axis `d` has no bit of the mask `k`. -/
def noBit (m : Nat) (d : Fin 2) (hi : (Rows m).Iotas .tc 32 [d]) (k : BitVec 32) : IVec (Rows m) 1 :=
  cmpi .eq (andi (iota .tc (Rows m) 32 [d] hi) (broadcast (Rows m) k)) (broadcast (Rows m) 0#32)

/-- The smaller of a value and its partner where `asc`, `bit` and `flip` together say so, else the greater. -/
def pickEx (m : Nat) (asc bit : IVec (Rows m) 1) (flip : BitVec 1) (v p : FVec F (Rows m) .f32) : FVec F (Rows m) .f32 :=
  select (xori (xori asc bit) (broadcast (Rows m) flip)) (minimumf v p) (maximumf v p)

/-- Compare-exchange of every row with the row whose number differs in bit `j`, its partner fetched by rotating
    by `j` for the rows that have the bit and by `j'` for those that lack it. -/
def rowEx (m : Nat) (hi : (Rows m).Iotas .tc 32 [0]) (hr : (Rows m).Rotates 0 none) (j j' : BitVec 32) (asc : IVec (Rows m) 1)
    (flip : BitVec 1) (v : FVec F (Rows m) .f32) : FVec F (Rows m) .f32 :=
  pickEx m asc (hasBit m 0 hi j) flip v (select (hasBit m 0 hi j) (dynamicRotate 0 j none v hr) (dynamicRotate 0 j' none v hr))

/-- Compare-exchange of every lane with the one 64 lanes away. -/
def laneEx (m : Nat) (hi : (Rows m).Iotas .tc 32 [1]) (hr : (Rows m).Rotates 1 none) (asc : IVec (Rows m) 1) (flip : BitVec 1)
    (v : FVec F (Rows m) .f32) : FVec F (Rows m) .f32 :=
  pickEx m asc (hasBit m 1 hi 64#32) flip v (dynamicRotate 1 64#32 none v hr)

/-- A row exchange of a packed block of 64 rows. -/
abbrev rowEx64 (j j' : BitVec 32) (asc : IVec S64x128 1) (flip : BitVec 1) (v : FVec F S64x128 .f32) : FVec F S64x128 .f32 :=
  rowEx 64 iota_S64x128_d0_w32 rotates_S64x128_d0 j j' asc flip v

/-- A row exchange of a pair's 128 rows, ascending but for the flip. -/
abbrev rowEx128 (j j' : BitVec 32) (flip : BitVec 1) (v : FVec F S128x128 .f32) : FVec F S128x128 .f32 :=
  rowEx 128 iota_S128x128_d0_w32 rotates_S128x128_d0 j j' (broadcast S128x128 1#1) flip v

/-- A row exchange of all 256 rows, ascending. -/
abbrev rowEx256 (j j' : BitVec 32) (v : FVec F S256x128 .f32) : FVec F S256x128 .f32 :=
  rowEx 256 iota_S256x128_d0_w32 rotates_S256x128_d0 j j' (broadcast S256x128 1#1) 0#1 v

/-- The rows of a packed block whose number lacks bit `k`: where a level of the local sort ascends. -/
abbrev up (k : BitVec 32) : IVec S64x128 1 := noBit 64 0 iota_S64x128_d0_w32 k

/-- Row exchanges 8, 4, 2, 1 of a packed block. -/
def down8 (asc : IVec S64x128 1) (flip : BitVec 1) (v : FVec F S64x128 .f32) : FVec F S64x128 .f32 :=
  rowEx64 1#32 63#32 asc flip (rowEx64 2#32 62#32 asc flip (rowEx64 4#32 60#32 asc flip (rowEx64 8#32 56#32 asc flip v)))

/-- Row exchanges 32, 16, 8, 4, 2, 1 of a packed block. -/
def down32 (asc : IVec S64x128 1) (flip : BitVec 1) (v : FVec F S64x128 .f32) : FVec F S64x128 .f32 :=
  down8 asc flip (rowEx64 16#32 48#32 asc flip (rowEx64 32#32 32#32 asc flip v))

/-- The lane exchange and then all row exchanges of a packed block, ascending but for the flip. -/
def down64 (flip : BitVec 1) (v : FVec F S64x128 .f32) : FVec F S64x128 .f32 :=
  down32 (broadcast S64x128 1#1) flip
    (laneEx 64 iota_S64x128_d1_w32 rotates_S64x128_d1 (broadcast S64x128 1#1) flip v)

/-- The levels of the local sort that merge runs of 2, 4 and 8. -/
def localLow (b : BitVec 1) (v : FVec F S64x128 .f32) : FVec F S64x128 .f32 :=
  rowEx64 1#32 63#32 (up 8#32) b (rowEx64 2#32 62#32 (up 8#32) b (rowEx64 4#32 60#32 (up 8#32) b
    (rowEx64 1#32 63#32 (up 4#32) b (rowEx64 2#32 62#32 (up 4#32) b
      (rowEx64 1#32 63#32 (up 2#32) b v)))))

/-- The levels of the local sort that merge runs of 16 and 32. -/
def localMid (b : BitVec 1) (v : FVec F S64x128 .f32) : FVec F S64x128 .f32 :=
  down8 (up 32#32) b (rowEx64 16#32 48#32 (up 32#32) b (down8 (up 16#32) b v))

/-- The levels of the local sort that merge runs of 64 and 128. -/
def localHigh (b : BitVec 1) (v : FVec F S64x128 .f32) : FVec F S64x128 .f32 :=
  down64 b (down32 (noBit 64 1 iota_S64x128_d1_w32 64#32) b v)

/-- All levels of the local sort. -/
def localChain (b : BitVec 1) (v : FVec F S64x128 .f32) : FVec F S64x128 .f32 :=
  localHigh b (localMid b (localLow b v))

/-- The merge of a pair's two runs of 128 per column. -/
def pairChain (flip : BitVec 1) (v : FVec F S128x128 .f32) : FVec F S128x128 .f32 :=
  rowEx128 1#32 127#32 flip (rowEx128 2#32 126#32 flip (rowEx128 4#32 124#32 flip (rowEx128 8#32 120#32 flip
    (rowEx128 16#32 112#32 flip (rowEx128 32#32 96#32 flip
      (laneEx 128 iota_S128x128_d1_w32 rotates_S128x128_d1 (broadcast S128x128 1#1) flip
        (rowEx128 64#32 64#32 flip v)))))))

/-- The first two steps of the last merge, over all rows. -/
def wholeChain (v : FVec F S256x128 .f32) : FVec F S256x128 .f32 := rowEx256 64#32 192#32 (rowEx256 128#32 128#32 v)

/-- The local sort is its chain. -/
theorem localVal_eq (b : BitVec 1) (x : Vec F S128x64 .f32) :
    localVal b x = shapeCast S64x128 (localChain b (k0_pay4 x)) shapeCasts_S64x128_S64x128 := by
  rfl

/-- The merge of the own pair is the pair's chain, flipped for the pair numbered 1. -/
theorem nearVal_eq (w : BitVec 32) (v : Vec F S128x128 .f32) :
    nearVal w v = shapeCast S128x128 (pairChain (Scalar.cmpi .eq w 1#32) v) shapeCasts_S128x128_S128x128 := by
  rfl

/-- The merge of the other pair is the pair's chain, flipped when the own pair is the one numbered 0. -/
theorem farVal_eq (w : BitVec 32) (v : Vec F S128x128 .f32) :
    farVal w v = shapeCast S128x128 (pairChain (Scalar.cmpi .eq w 0#32) v) shapeCasts_S128x128_S128x128 := by
  rfl

/-- The exchange over all rows is its chain. -/
theorem wholeVal_eq (v : Vec F S256x128 .f32) :
    wholeVal v = shapeCast S256x128 (wholeChain v) shapeCasts_S256x128_S256x128 := by
  rfl

/-- The left half of the result. -/
theorem leftVal_eq (v : Vec F S64x128 .f32) :
    leftVal v = extractStridedSlice S64x64 ![0, 0] (down64 0#1 v) slices_S64x128_o0_0_S64x64 := by
  rfl

/-- The right half of the result. -/
theorem rightVal_eq (v : Vec F S64x128 .f32) :
    rightVal v = extractStridedSlice S64x64 ![0, 64] (down64 0#1 v) slices_S64x128_o0_64_S64x64 := by
  rfl

end Cert.Merge

end
-- ==== Proof.Contents.lean ====
/- What the buffers hold: the gather buffer's 256 rows as plain functions of the devices' inputs (after the
   gather, after the two pair merges, after the exchange over all rows), the result each device writes, and
   how loads, stores and copies of a run of rows read and change such contents. -/
module

public import proofs.«01_k».proof.Proof.Exchange
public import Idealize.ShloMosaic.Lib.Pointwise.Index

@[expose] public section

set_option maxRecDepth 16384
set_option backward.isDefEq.respectTransparency false

noncomputable section

namespace Cert.Merge

open Idealize.ShloMosaic Idealize.SL.Sem
open Cert.KernelIdeal Cert.KernelIdeal.Gen

variable {F : FTy → Type} [FloatOps F]

/-! ## Runs of rows -/

/-- The elements of the gather buffer in the `n` rows from row `lo`. -/
def rowsAt (lo n : Nat) : Finset S256x128.Idx := Finset.univ.filter fun i => lo ≤ (i 0).val ∧ (i 0).val < lo + n

theorem mem_rowsAt {lo n : Nat} {i : S256x128.Idx} : i ∈ rowsAt lo n ↔ lo ≤ (i 0).val ∧ (i 0).val < lo + n := by
  simp [rowsAt]

/-- The `n` rows from row `lo` of contents. -/
def window {α : Type} (lo n : Nat) (h : lo + n ≤ 256) (f : S256x128.Idx → α) : (Rows n).Idx → α :=
  fun x => f (ix2 (n0 := 256) (n1 := 128) ⟨lo + (x 0).val, by have : (x 0).val < n := (x 0).isLt; omega⟩ (x 1))

/-- Contents with the `n` rows from row `lo` replaced by `w`. -/
def layRows {α : Type} (lo n : Nat) (w : (Rows n).Idx → α) (f : S256x128.Idx → α) : S256x128.Idx → α :=
  fun i => if h : lo ≤ (i 0).val ∧ (i 0).val < lo + n then
    w (ix2 (n0 := n) (n1 := 128) ⟨(i 0).val - lo, by omega⟩ (i 1)) else f i

/-- The gather buffer, as the body names it. -/
abbrev gat : Memref sig .tc .vmem S256x128 .f32 := Memref.whole cc0_scratch0

/-- The elements under a rectangle of whole rows. -/
theorem set_rows {off size : Fin 2 → Nat} {inb : ∀ a, off a + size a ≤ S256x128.size a} (lo n : Nat)
    (ho : off = ![lo, 0]) (hs : size = ![n, 128]) :
    ((gat.access (Rect.unit (s := S256x128) off size inb)).set : Finset S256x128.Idx) = rowsAt lo n := by
  subst ho; subst hs
  ext i
  have e : i ∈ (gat.access (Rect.unit (s := S256x128) ![lo, 0] ![n, 128] inb)).set ↔ i ∈ (Rect.unit (s := S256x128) ![lo, 0] ![n, 128] inb).set := by
    rw [show (gat.access (Rect.unit (s := S256x128) ![lo, 0] ![n, 128] inb)).set = (Rect.unit (s := S256x128) ![lo, 0] ![n, 128] inb).set from
      View.set_slice_whole cc0_scratch0 _]
  rw [e, Rect.mem_set_unit, mem_rowsAt]
  constructor
  · intro h; exact h 0
  · intro h a
    match a with
    | ⟨0, _⟩ => exact h
    | ⟨1, _⟩ => exact ⟨Nat.zero_le _, by show (i 1).val < 0 + 128; have : (i 1).val < 128 := (i 1).isLt; omega⟩

/-- A rectangle of whole rows sits where its first row says. -/
theorem emb_rows {lo n : Nat} {inb : ∀ a, (![lo, 0] : Fin 2 → Nat) a + (![n, 128] : Fin 2 → Nat) a ≤ S256x128.size a} (x : (Rows n).Idx)
    (h : lo + (x 0).val < 256) :
    (gat.access (Rect.unit (s := S256x128) ![lo, 0] ![n, 128] inb)).emb x = ix2 (n0 := 256) (n1 := 128) ⟨lo + (x 0).val, h⟩ (x 1) := by
  funext a
  match a with
  | ⟨0, _⟩ => exact Fin.ext (show lo + 1 * (x 0).val = lo + (x 0).val by omega)
  | ⟨1, _⟩ => exact Fin.ext (show 0 + 1 * (x 1).val = (x 1).val by omega)

/-- Loading a rectangle of whole rows reads those rows. -/
theorem read_rows {off : Fin 2 → Nat} (lo n : Nat) {inb : ∀ a, off a + (![n, 128] : Fin 2 → Nat) a ≤ S256x128.size a}
    (ho : off = ![lo, 0]) (h : lo + n ≤ 256) (f : S256x128.Idx → Elt F .f32) :
    (gat.access (Rect.unit (s := S256x128) off ![n, 128] inb)).read (Elt F) f = window lo n h f := by
  subst ho
  funext x
  have hx : (x 0).val < n := (x 0).isLt
  show f ((gat.access (Rect.unit (s := S256x128) ![lo, 0] ![n, 128] inb)).emb x) = _
  rw [emb_rows x (by omega)]
  rfl

/-- Storing a rectangle of whole rows replaces those rows. -/
theorem write_rows {off : Fin 2 → Nat} (lo n : Nat) {inb : ∀ a, off a + (![n, 128] : Fin 2 → Nat) a ≤ S256x128.size a}
    (ho : off = ![lo, 0]) (f : S256x128.Idx → Elt F .f32) (w : (Rows n).Idx → Elt F .f32) :
    (gat.access (Rect.unit (s := S256x128) off ![n, 128] inb)).write (Elt F) f w Finset.univ = layRows lo n w f := by
  subst ho
  funext i
  unfold layRows
  split
  · next h =>
    have hi : (gat.access (Rect.unit (s := S256x128) ![lo, 0] ![n, 128] inb)).emb
        (ix2 (n0 := n) (n1 := 128) ⟨(i 0).val - lo, by omega⟩ (i 1)) = i := by
      have hb : (i 0).val < 256 := (i 0).isLt
      rw [emb_rows _ (by show lo + ((i 0).val - lo) < 256; omega)]
      funext a
      match a with
      | ⟨0, _⟩ => exact Fin.ext (show lo + ((i 0).val - lo) = (i 0).val by omega)
      | ⟨1, _⟩ => rfl
    exact (congrArg ((gat.access (Rect.unit (s := S256x128) ![lo, 0] ![n, 128] inb)).write (Elt F) f w Finset.univ) hi.symm).trans
      (View.write_emb_of_mem (v := gat.access (Rect.unit (s := S256x128) ![lo, 0] ![n, 128] inb)) (Val := Elt F) f w (Finset.mem_univ _))
  · next h =>
    refine View.write_of_not_mem (v := gat.access (Rect.unit (s := S256x128) ![lo, 0] ![n, 128] inb)) (Val := Elt F) f w Finset.univ fun hm => h ?_
    have hm' : i ∈ ((gat.access (Rect.unit (s := S256x128) ![lo, 0] ![n, 128] inb)).set : Finset S256x128.Idx) := hm
    rw [set_rows lo n rfl rfl] at hm'
    exact mem_rowsAt.mp hm'

/-- The same rows under another name of the first one. -/
theorem window_congr {α : Type} {lo lo' n : Nat} (e : lo = lo') (h : lo + n ≤ 256) (h' : lo' + n ≤ 256) (f : S256x128.Idx → α) :
    window lo n h f = window lo' n h' f := by subst e; rfl

/-- Rows that a replacement spares read as before. -/
theorem window_layRows_of_disjoint {α : Type} {lo n lo' n' : Nat} (h : lo + n ≤ 256) (hd : lo + n ≤ lo' ∨ lo' + n' ≤ lo)
    (w : (Rows n').Idx → α) (f : S256x128.Idx → α) : window lo n h (layRows lo' n' w f) = window lo n h f := by
  funext x
  have hx : (x 0).val < n := (x 0).isLt
  unfold window layRows
  exact dif_neg (by show ¬ (lo' ≤ lo + (x 0).val ∧ lo + (x 0).val < lo' + n'); omega)

/-- Replacements of disjoint runs of rows commute. -/
theorem layRows_comm {α : Type} {lo n lo' n' : Nat} (hd : lo + n ≤ lo' ∨ lo' + n' ≤ lo)
    (w : (Rows n).Idx → α) (w' : (Rows n').Idx → α) (f : S256x128.Idx → α) :
    layRows lo n w (layRows lo' n' w' f) = layRows lo' n' w' (layRows lo n w f) := by
  funext i
  by_cases h : lo ≤ (i 0).val ∧ (i 0).val < lo + n
  · have h' : ¬ (lo' ≤ (i 0).val ∧ (i 0).val < lo' + n') := by omega
    simp only [layRows, dif_pos h, dif_neg h']
  · simp only [layRows, dif_neg h]

/-! ## The contents at each stage -/

/-- The device whose block a row of the gather buffer belongs to. -/
def ownerOf (i : S256x128.Idx) : Dev nD := ⟨(i 0).val / 64, by have : (i 0).val < 256 := (i 0).isLt; show (i 0).val / 64 < 4; omega⟩

/-- The gather buffer once every block has arrived: each device's locally sorted block in its rows. -/
def gathered (x : Dev nD → Vec F S128x64 .f32) : Vec F S256x128 .f32 :=
  fun i => localVal (oddWord (ownerOf i)) (x (ownerOf i)) (ix2 (n0 := 64) (n1 := 128) ⟨(i 0).val % 64, Nat.mod_lt _ (by decide)⟩ (i 1))

/-- The gather buffer once both pairs are merged, the pair numbered 1 the other way round. -/
def merged (x : Dev nD → Vec F S128x64 .f32) : Vec F S256x128 .f32 :=
  layRows 128 128 (nearVal 1#32 (window 128 128 (by decide) (gathered x)))
    (layRows 0 128 (nearVal 0#32 (window 0 128 (by decide) (gathered x))) (gathered x))

/-- The gather buffer after the exchange over all rows. -/
def crossed (x : Dev nD → Vec F S128x64 .f32) : Vec F S256x128 .f32 := wholeVal (merged x)

/-- A device's own 64 rows of contents. -/
def ownRows (c : Dev nD) (f : Vec F S256x128 .f32) : Vec F S64x128 .f32 :=
  window (64 * c.val) 64 (by have : c.val < 4 := c.isLt; omega) f

/-- What device `c` leaves in its output block: the left lanes above the right lanes. -/
def result (x : Dev nD → Vec F S128x64 .f32) (c : Dev nD) : Vec F S128x64 .f32 :=
  fun i => if h : (i 0).val < 64 then leftVal (ownRows c (crossed x)) (ix2 (n0 := 64) (n1 := 64) ⟨(i 0).val, h⟩ (i 1))
    else rightVal (ownRows c (crossed x)) (ix2 (n0 := 64) (n1 := 64) ⟨(i 0).val - 64, by have : (i 0).val < 128 := (i 0).isLt; omega⟩ (i 1))

/-- On a device's own rows the gathered contents are its local sort, laid over anything. -/
theorem layRows_own (x : Dev nD → Vec F S128x64 .f32) (c : Dev nD) (f : Vec F S256x128 .f32) :
    ∀ i ∈ rowsAt (64 * c.val) 64, layRows (64 * c.val) 64 (localVal (oddWord c) (x c)) f i = gathered x i := by
  intro i hi
  have hi := mem_rowsAt.mp hi
  have ho : ownerOf i = c := Fin.ext (show (i 0).val / 64 = c.val by omega)
  unfold gathered layRows
  rw [dif_pos hi, ho]
  congr 1
  rw [ix2_inj]
  exact ⟨Fin.ext (show (i 0).val - 64 * c.val = (i 0).val % 64 by omega), rfl⟩

/-! ## What the kernel's index words come to -/

theorem off1_eq (c : Dev nD) : k0_off1 c = ![64 * c.val, 0] := k0_off1_eq c

theorem off2_eq (c : Dev nD) : k0_off2 c = ![64 * c.val, 0] := k0_off2_eq c

theorem off3_eq (c : Dev nD) : k0_off3 c = ![128 * (c.val / 2), 0] := by revert c; decide

theorem off4_eq (c : Dev nD) : k0_off4 c = ![128 * (1 - c.val / 2), 0] := by revert c; decide

theorem pairWord_low {c : Dev nD} (h : c.val / 2 = 0) : pairWord c = 0#32 := by revert c; decide

theorem pairWord_high {c : Dev nD} (h : c.val / 2 = 1) : pairWord c = 1#32 := by revert c; decide

/-! ## The two merges, in either order -/

/-- The contents after a device has merged its own pair only. -/
def mergedNear (x : Dev nD → Vec F S128x64 .f32) (c : Dev nD) : Vec F S256x128 .f32 :=
  layRows (128 * (c.val / 2)) 128
    (nearVal (pairWord c) (window (128 * (c.val / 2)) 128 (by have : c.val < 4 := c.isLt; omega) (gathered x))) (gathered x)

/-- Merging the other pair after one's own gives the same contents on every device. -/
theorem mergedFar_eq (x : Dev nD → Vec F S128x64 .f32) (c : Dev nD) :
    layRows (128 * (1 - c.val / 2)) 128
      (farVal (pairWord c) (window (128 * (1 - c.val / 2)) 128 (by omega) (mergedNear x c))) (mergedNear x c) = merged x := by
  have hc : c.val < 4 := c.isLt
  have h01 : c.val / 2 = 0 ∨ c.val / 2 = 1 := by omega
  have hf0 : ∀ v : Vec F S128x128 .f32, farVal 0#32 v = nearVal 1#32 v := fun v => by rw [farVal_eq, nearVal_eq]; rfl
  have hf1 : ∀ v : Vec F S128x128 .f32, farVal 1#32 v = nearVal 0#32 v := fun v => by rw [farVal_eq, nearVal_eq]; rfl
  unfold mergedNear merged
  rcases h01 with h | h
  · rw [pairWord_low h, window_layRows_of_disjoint _ (by omega), hf0,
      window_congr (show 128 * (1 - c.val / 2) = 128 by omega) _ (by decide),
      window_congr (show 128 * (c.val / 2) = 0 by omega) _ (by decide)]
    simp only [h, Nat.mul_zero, Nat.mul_one, Nat.sub_zero]
  · rw [pairWord_high h, window_layRows_of_disjoint _ (by omega), hf1, layRows_comm (by omega),
      window_congr (show 128 * (1 - c.val / 2) = 0 by omega) _ (by decide),
      window_congr (show 128 * (c.val / 2) = 128 by omega) _ (by decide)]
    simp only [h, Nat.mul_zero, Nat.mul_one, Nat.sub_self]

end Cert.Merge

end
-- ==== Proof.Protocol.lean ====
/- The protocol between the four devices: the semaphore cells, what each payment on them carries, what each
   device owes and waits for, and the levels by which no wait can be circular.

   Every device signals the barrier semaphore of the three others, waits for the three signals due to itself,
   then copies its own 64 rows into the gather buffer of each of the others. A device's signal carries the rows
   of its gather buffer that the signalled device will write; a landed copy carries those rows written. The
   copy to the device `d + 1` ahead uses send semaphore `d` of the sender and receive semaphore `d` of the
   receiver. -/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 16384

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's resource algebra: rounds over the semaphore cells, a round's payments named by `Fin 3`. -/
abbrev UB : Type := URounds (GSem nD τ sig) (Fin 3)
/-- The pipeline's own algebra beside the protocol's. -/
abbrev UU : Type := UR sig nD τ × UB

local notation "𝕄" => MT nD τ sig Unit (Elt F) ℕ UU ℕ

/-- The pipeline's algebra as a part of the whole. -/
abbrev EP : Emb (UR sig nD τ) (MT nD τ sig Unit (Elt F) ℕ UU ℕ) := embL
/-- The protocol's algebra as a part of the whole. -/
abbrev ER : Emb UB (MT nD τ sig Unit (Elt F) ℕ UU ℕ) := embR

/-! ## Devices -/

set_option backward.proofsInPublic true in
/-- The device `d + 1` places ahead of `c` on the ring of four. -/
def ahead (c : Dev nD) (d : Fin 3) : Dev nD := ⟨(c.val + d.val + 1) % 4, Nat.mod_lt _ (by decide)⟩

/-- Going ahead by the complementary distance leads back. -/
theorem ahead_rev (c : Dev nD) (d : Fin 3) : ahead (ahead c d) d.rev = c := by revert c d; decide

/-- The first signal and the first copy name the next device, … -/
theorem dev1_eq (c : Dev nD) : (⟨k0_dev1 c, k0_dev1_lt c⟩ : Dev nD) = ahead c 0 := by revert c; decide +kernel
theorem dev4_eq (c : Dev nD) : (⟨k0_dev4 c, k0_dev4_lt c⟩ : Dev nD) = ahead c 0 := by revert c; decide +kernel
/-- … the second ones the device after it, … -/
theorem dev2_eq (c : Dev nD) : (⟨k0_dev2 c, k0_dev2_lt c⟩ : Dev nD) = ahead c 1 := by revert c; decide +kernel
theorem dev5_eq (c : Dev nD) : (⟨k0_dev5 c, k0_dev5_lt c⟩ : Dev nD) = ahead c 1 := by revert c; decide +kernel
/-- … and the third ones the device after that. -/
theorem dev3_eq (c : Dev nD) : (⟨k0_dev3 c, k0_dev3_lt c⟩ : Dev nD) = ahead c 2 := by revert c; decide +kernel
theorem dev6_eq (c : Dev nD) : (⟨k0_dev6 c, k0_dev6_lt c⟩ : Dev nD) = ahead c 2 := by revert c; decide +kernel

/-! ## Cells -/

/-- The barrier semaphore. -/
abbrev barS : Sem sig := (SemArray.scalar (sig.barrier 0 rfl) : Sems sig S_).sem
/-- The send semaphore of copy `d`. -/
abbrev sendS : Fin 3 → DmaSem sig
  | 0 => 2
  | 1 => 3
  | 2 => 4
/-- The receive semaphore of copy `d`. -/
abbrev recvS : Fin 3 → DmaSem sig
  | 0 => 5
  | 1 => 6
  | 2 => 7

abbrev barCell (c : Dev nD) : GSem nD τ sig := ((c : Thread nD τ), .reg barS)
abbrev sendCell (c : Dev nD) (d : Fin 3) : GSem nD τ sig := ((c : Thread nD τ), .dma (sendS d))
abbrev recvCell (c : Dev nD) (d : Fin 3) : GSem nD τ sig := ((c : Thread nD τ), .dma (recvS d))

/-- What a semaphore is for. -/
inductive Role where
  | bar
  | send (d : Fin 3)
  | recv (d : Fin 3)
  | other

/-- The role of a semaphore. -/
def roleOf (s : SemLoc sig) : Role :=
  if s = .reg barS then .bar
  else if s = .dma (sendS 0) then .send 0 else if s = .dma (sendS 1) then .send 1 else if s = .dma (sendS 2) then .send 2
  else if s = .dma (recvS 0) then .recv 0 else if s = .dma (recvS 1) then .recv 1 else if s = .dma (recvS 2) then .recv 2
  else .other

theorem role_bar : roleOf (.reg barS) = .bar := rfl
theorem role_send (d : Fin 3) : roleOf (.dma (sendS d)) = .send d := by revert d; intro d; fin_cases d <;> rfl
theorem role_recv (d : Fin 3) : roleOf (.dma (recvS d)) = .recv d := by revert d; intro d; fin_cases d <;> rfl

/-- What one copy of 64 rows credits. -/
abbrev N : ℕ := (ownWin gat (0 : Dev nD)).view.dmaCredit
theorem N_pos : 0 < N := View.dmaCredit_pos _ (by decide)

/-! ## Contents and ownership -/

/-- Device `s`'s gather buffer on the 64 rows of block `b`, at share `q` and contents `f`. -/
def blk (s b : Dev nD) (q : PosShare TreeShare) (f : Buf (Elt F) ((s : Thread nD τ).loc cc0_scratch0)) : sProp 𝕄 :=
  ((s : Thread nD τ).loc cc0_scratch0) ↦[rowsAt (64 * b.val) 64]{q} f

omit [FloatOps F] in
instance blk_storable (s b : Dev nD) (q) (f) : BI.Storable (upEmb : UEmb _ 𝕄) (blk (F := F) s b q f) := by
  unfold blk; infer_instance

/-- The share of its own rows a device lends to copy `d`. -/
abbrev lent : Fin 3 → PosShare TreeShare
  | 0 => fullShare.left
  | 1 => fullShare.right.left
  | 2 => fullShare.right.right

variable (x : Dev nD → Vec F S128x64 .f32)

/-- What the signal named `d` of `c`'s barrier carries: the rows of `c`'s block in the buffer of the device that gives it. -/
def barPay (c : Dev nD) (d : Fin 3) : sProp 𝕄 := iprop(∃ f, blk (F := F) (ahead c d) c fullShare f)
/-- What the end of `c`'s copy `d` gives back: the share lent to it. -/
def sendPay (c : Dev nD) (d : Fin 3) : sProp 𝕄 := blk c c (lent d) (gathered x)
/-- What a landed copy `d` carries: the sender's rows in `c`'s buffer, written. -/
def recvPay (c : Dev nD) (d : Fin 3) : sProp 𝕄 := blk c (ahead c d.rev) fullShare (gathered x)

/-- What a payment carries, by the role of its semaphore. -/
def payOf (c : Dev nD) (d : Fin 3) : Role → sProp 𝕄
  | .bar => barPay c d
  | .send e => sendPay x c e
  | .recv e => recvPay x c e
  | .other => iprop(emp)

omit [FloatOps F] in
instance barPay_storable (c : Dev nD) (d : Fin 3) : BI.Storable (upEmb : UEmb _ 𝕄) (barPay (F := F) c d) := by
  unfold barPay; infer_instance

instance payOf_storable (c : Dev nD) (d : Fin 3) (r : Role) : BI.Storable (upEmb : UEmb _ 𝕄) (payOf x c d r) := by
  cases r <;> dsimp only [payOf, sendPay, recvPay] <;> infer_instance

/-- The payments a cell's only round has, by the role of its semaphore. -/
def dutiesOf : Role → Finset (Fin 3)
  | .bar => Finset.univ
  | .send _ => {0}
  | .recv _ => {0}
  | .other => ∅

/-- What one payment amounts to. -/
def amountOf : Role → ℕ
  | .bar => 1
  | _ => N

/-- The schedule: one round at each cell; three unit payments at a barrier cell, one of a block's credit at a
    send or receive cell. -/
def sched : Rounds.Schedule (GSem nD τ sig) (Fin 3) 𝕄 where
  duties g r := if r = 0 ∧ g.1.2 = .tc then dutiesOf (roleOf g.2) else ∅
  unitless _ := False
  amount g _ _ := amountOf (roleOf g.2)
  payload g _ d := payOf x g.1.1 d (roleOf g.2)
  amount_pos g _ _ _ := by
    show 0 < amountOf (roleOf g.2)
    unfold amountOf
    split
    · exact Nat.one_pos
    · exact N_pos

instance sched_payload_storable (g : GSem nD τ sig) (r : ℕ) (d : Fin 3) :
    BI.Storable (upEmb : UEmb _ 𝕄) ((sched x).payload g r d) := payOf_storable x g.1.1 d (roleOf g.2)

section Sched
variable (c : Dev nD) (e d : Fin 3)

theorem duties_bar : (sched x).duties (barCell c) 0 = Finset.univ := by
  dsimp only [sched]; rw [if_pos ⟨rfl, rfl⟩, role_bar]; rfl
theorem duties_send : (sched x).duties (sendCell c e) 0 = {0} := by
  dsimp only [sched]; rw [if_pos ⟨rfl, rfl⟩, role_send]; rfl
theorem duties_recv : (sched x).duties (recvCell c e) 0 = {0} := by
  dsimp only [sched]; rw [if_pos ⟨rfl, rfl⟩, role_recv]; rfl
theorem duties_later (g : GSem nD τ sig) : ∀ r, 1 ≤ r → (sched x).duties g r = ∅ :=
  fun r hr => if_neg fun h => by omega

theorem amount_bar : (sched x).amount (barCell c) 0 d = 1 := by dsimp only [sched]; rw [role_bar]; rfl
theorem amount_send : (sched x).amount (sendCell c e) 0 d = N := by dsimp only [sched]; rw [role_send]; rfl
theorem amount_recv : (sched x).amount (recvCell c e) 0 d = N := by dsimp only [sched]; rw [role_recv]; rfl

theorem expect_bar : (sched x).expect (barCell c) 0 = 3 := by
  unfold Schedule.expect Schedule.amountOf
  rw [duties_bar, Finset.sum_congr rfl fun d _ => amount_bar x c d]; rfl
theorem expect_send : (sched x).expect (sendCell c e) 0 = N := by
  unfold Schedule.expect Schedule.amountOf; rw [duties_send, Finset.sum_singleton, amount_send]
theorem expect_recv : (sched x).expect (recvCell c e) 0 = N := by
  unfold Schedule.expect Schedule.amountOf; rw [duties_recv, Finset.sum_singleton, amount_recv]

theorem payload_bar : (sched x).payload (barCell c) 0 d = barPay c d := by dsimp only [sched]; rw [role_bar]; rfl
theorem payload_send : (sched x).payload (sendCell c e) 0 d = sendPay x c e := by dsimp only [sched]; rw [role_send]; rfl
theorem payload_recv : (sched x).payload (recvCell c e) 0 d = recvPay x c e := by dsimp only [sched]; rw [role_recv]; rfl

/-- All of a barrier cell's round: the three others' rows. -/
theorem rest_bar : bigSep ((sched x).duties (barCell c) 0 \ ∅) (fun d => (sched x).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((sched x).duties (sendCell c e) 0 \ ∅) (fun d => (sched x).payload (sendCell c e) 0 d) = sendPay x c e := by
  rw [Finset.sdiff_empty, duties_send, bigSep_singleton, payload_send]
theorem rest_recv : bigSep ((sched x).duties (recvCell c e) 0 \ ∅) (fun d => (sched x).payload (recvCell c e) 0 d) = recvPay x c e := by
  rw [Finset.sdiff_empty, duties_recv, bigSep_singleton, payload_recv]

end Sched

/-! ## Debts and levels -/

/-- The debt of copy `d`. -/
abbrev owe (c : Dev nD) (d : Fin 3) : CellTallies nD τ sig Unit := tallyAt (recvCell (ahead c d) d) () N
/-- The debt of signal `d`. -/
abbrev due (c : Dev nD) (d : Fin 3) : CellTallies nD τ sig Unit := tallyAt (barCell (ahead c d)) () 1

/-- What a device owes once its signals are given: its three copies. -/
def O₁ (c : Dev nD) : CellTallies nD τ sig Unit := owe c 2 + owe c 1 + owe c 0
/-- What it owes at the start: the copies and the signals. -/
def O₀ (c : Dev nD) : CellTallies nD τ sig Unit := O₁ c + due c 2 + due c 1 + due c 0

/-- The cores the levels are for. -/
def L (g : GSem nD τ sig) : Finset Unit := if g.1.2 = .tc then {()} else ∅
/-- A barrier is level 1, a receive semaphore level 2, everything else level 0. -/
def lv (g : GSem nD τ sig) (_ : Unit) : ℕ :=
  match roleOf g.2 with
  | .bar => 1
  | .recv _ => 2
  | _ => 0

theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (d : Fin 3) (u : Unit) : lv (recvCell c d) u = 2 := by unfold lv; rw [role_recv]

theorem tally_pos {g g' : GSem nD τ sig} {u : Unit} {n : ℕ} (h : tallyAt g () n g' u ≠ 0) : g' = g := by
  rw [tallyAt_apply] at h
  by_contra hn
  exact h (if_neg fun h' => hn h'.1)

/-- Copies are owed to receive cells only. -/
theorem O₁_pos {c : Dev nD} {g : GSem nD τ sig} {u : Unit} (h : 0 < O₁ c g u) : ∃ r d, g = recvCell r d := by
  unfold O₁ at h
  rw [Pi.add_apply, Finsupp.add_apply, Pi.add_apply, Finsupp.add_apply] at h
  by_contra hn
  have e (d : Fin 3) : owe c d g u = 0 := by
    by_contra h'
    exact hn ⟨_, d, tally_pos h'⟩
  rw [e, e, e] at h
  exact Nat.lt_irrefl 0 h

/-- Everything is owed to receive cells and barrier cells. -/
theorem O₀_pos {c : Dev nD} {g : GSem nD τ sig} {u : Unit} (h : 0 < O₀ c g u) :
    (∃ r d, g = recvCell r d) ∨ ∃ r, g = barCell r := by
  unfold O₀ at h
  rw [Pi.add_apply, Finsupp.add_apply, Pi.add_apply, Finsupp.add_apply, Pi.add_apply, Finsupp.add_apply] at h
  by_contra hn
  rw [not_or] at hn
  have e (d : Fin 3) : due c d g u = 0 := by
    by_contra h'
    exact hn.2 ⟨_, tally_pos h'⟩
  rw [e, e, e] at h
  exact hn.1 (O₁_pos (by simpa using h))

/-- A device may wait for a staging copy or a send whatever of its debts is left. -/
theorem mayWait_low (c : Dev nD) (q : DmaSem sig) (hq : ∀ u, lv ((c : Thread nD τ), .dma q) u = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq (hq ())) (fun g u hg => ?_)
    · rcases O₀_pos hg with ⟨r, d, rfl⟩ | ⟨r, rfl⟩ <;> exact Finset.mem_singleton_self _
    · rcases O₀_pos hg with ⟨r, d, rfl⟩ | ⟨r, rfl⟩
      · rw [lv_recv]; decide
      · rw [lv_bar]; decide
  · rw [MayWait_zero]; iintro -; iempintro

/-- At its barrier wait a device owes receive cells only, which are above its barrier. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨r, d, rfl⟩ := O₁_pos hg; exact Finset.mem_singleton_self _)
    (fun p hp => by rw [Finset.mem_singleton.mp hp]; exact le_of_eq (lv_bar c ()))
    (fun g u hg => by obtain ⟨r, d, rfl⟩ := O₁_pos hg; rw [lv_recv]; decide)

end Cert.Merge

end
-- ==== Proof.Rows.lean ====
/- Ownership of the gather buffer by rows: the buffer cut into the four devices' blocks and put together again,
   a block lent out in three shares, and the program's loads, stores, copies, signals and waits as rules about
   whole rows. -/
module

public import proofs.«01_k».proof.Proof.Protocol

@[expose] public section

set_option maxRecDepth 16384
set_option backward.isDefEq.respectTransparency false

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of rows -/

/-- A device's block is the rows it owns. -/
theorem mem_block {b : Dev nD} {i : S256x128.Idx} : i ∈ rowsAt (64 * b.val) 64 ↔ ownerOf i = b := by
  have hi : (i 0).val < 256 := (i 0).isLt
  rw [mem_rowsAt, ← Fin.val_inj]
  show _ ↔ (i 0).val / 64 = b.val
  omega

/-- Different devices' blocks share nothing. -/
theorem blocks_disjoint {b b' : Dev nD} (h : b ≠ b') : Disjoint (rowsAt (64 * b.val) 64) (rowsAt (64 * b'.val) 64) :=
  Finset.disjoint_left.mpr fun i hi hi' => h ((mem_block.mp hi).symm.trans (mem_block.mp hi'))

/-- The rows of the devices in `S`. -/
def rowsOf (S : Finset (Dev nD)) : Finset S256x128.Idx := Finset.univ.filter fun i => ownerOf i ∈ S

theorem mem_rowsOf {S : Finset (Dev nD)} {i : S256x128.Idx} : i ∈ rowsOf S ↔ ownerOf i ∈ S := by
  simp [rowsOf]

/-- The gather buffer of `s` on the rows of the devices in `S`. -/
def rows (s : Dev nD) (S : Finset (Dev nD)) (f : Buf (Elt F) ((s : Thread nD τ).loc cc0_scratch0)) : sProp 𝕄 :=
  ((s : Thread nD τ).loc cc0_scratch0) ↦[rowsOf S]{fullShare} f

omit [FloatOps F] in
/-- Elements that make up disjoint pieces are owned piece by piece. -/
theorem pointsTo_pieces {ℓ : Loc nD τ sig} {f : Buf (Elt F) ℓ} (S : Finset (Dev nD)) (I : Finset (Idx ℓ)) (J : Dev nD → Finset (Idx ℓ))
    (hI : ∀ i, i ∈ I ↔ ∃ b ∈ S, i ∈ J b) (hd : ∀ b ∈ S, ∀ b' ∈ S, b ≠ b' → Disjoint (J b) (J b')) :
    (ℓ ↦[I]{fullShare} f : sProp 𝕄) = bigSep S fun b => (ℓ ↦[J b]{fullShare} f : sProp 𝕄) := by
  rw [show I = S.biUnion J from Finset.ext fun i => by rw [Finset.mem_biUnion]; exact hI i]
  exact pointsTo_biUnion S J hd

omit [FloatOps F] in
/-- Rows are owned block by block. -/
theorem rows_eq (s : Dev nD) (S : Finset (Dev nD)) (f : Buf (Elt F) ((s : Thread nD τ).loc cc0_scratch0)) :
    rows s S f = bigSep S fun b => blk s b fullShare f := by
  unfold rows blk
  exact pointsTo_pieces S _ _ (fun i => ⟨fun h => ⟨_, mem_rowsOf.mp h, mem_block.mpr rfl⟩,
    fun ⟨b, hb, hi⟩ => mem_rowsOf.mpr ((mem_block.mp hi).symm ▸ hb)⟩) fun b _ b' _ h => blocks_disjoint h

omit [FloatOps F] in
/-- Everything is the rows of all devices. -/
theorem rows_univ (s : Dev nD) (f : Buf (Elt F) ((s : Thread nD τ).loc cc0_scratch0)) :
    rows s Finset.univ f = (((s : Thread nD τ).loc cc0_scratch0) ↦{fullShare} f : sProp 𝕄) := by
  unfold rows
  rw [show rowsOf Finset.univ = (Finset.univ : Finset S256x128.Idx) from Finset.ext fun i => by simp [mem_rowsOf]]

omit [FloatOps F] in
/-- The whole buffer is a device's own block and the three others'. -/
theorem rows_four (c : Dev nD) (f : Buf (Elt F) ((c : Thread nD τ).loc cc0_scratch0)) :
    rows c Finset.univ f
      = iprop(blk c c fullShare f ∗ blk c (ahead c 0) fullShare f ∗ blk c (ahead c 1) fullShare f ∗ blk c (ahead c 2) fullShare f) := by
  rw [rows_eq, bigSep_univ_eq_bigSepL [c, ahead c 0, ahead c 1, ahead c 2] (by clear f; revert c; decide) (by clear f; revert c; decide)]
  rfl

/-- The devices whose blocks a device has before its last receive: itself and its two neighbours. -/
def around (c : Dev nD) : Finset (Dev nD) := {c, ahead c 0, ahead c 2}

omit [FloatOps F] in
theorem rows_around (c : Dev nD) (f : Buf (Elt F) ((c : Thread nD τ).loc cc0_scratch0)) :
    rows c (around c) f = iprop(blk c c fullShare f ∗ blk c (ahead c 0) fullShare f ∗ blk c (ahead c 2) fullShare f) := by
  rw [rows_eq, bigSep_eq_bigSepL_of_eq [c, ahead c 0, ahead c 2] (by clear f; revert c; decide) (by clear f; revert c; decide)]
  rfl

omit [FloatOps F] in
/-- The last block completes them. -/
theorem rows_complete (c : Dev nD) (f : Buf (Elt F) ((c : Thread nD τ).loc cc0_scratch0)) :
    iprop(rows c (around c) f ∗ blk c (ahead c 1) fullShare f) ⊢ rows c Finset.univ f := by
  rw [rows_around, rows_four]
  iintro ⟨⟨H0, H1, H2⟩, H3⟩
  isplitl [H0]; · iexact H0
  isplitl [H1]; · iexact H1
  isplitl [H3] <;> iassumption

/-- A device's pair lies among the blocks it then has. -/
theorem near_subset (c : Dev nD) : rowsAt (128 * (c.val / 2)) 128 ⊆ rowsOf (around c) := by
  intro i hi
  have hi := mem_rowsAt.mp hi
  have key : ∀ b c : Dev nD, b.val / 2 = c.val / 2 → b ∈ around c := by decide
  exact mem_rowsOf.mpr (key _ c (show (i 0).val / 64 / 2 = c.val / 2 by omega))

/-- The last block is not of the device's own pair. -/
theorem near_avoids {c : Dev nD} {i : S256x128.Idx} (hi : i ∈ rowsAt (64 * (ahead c 1).val) 64) :
    ¬ (128 * (c.val / 2) ≤ (i 0).val ∧ (i 0).val < 128 * (c.val / 2) + 128) := by
  have hi := mem_rowsAt.mp hi
  have key : ∀ c : Dev nD, (ahead c 1).val / 2 ≠ c.val / 2 := by decide
  have := key c
  omega

omit [FloatOps F] in
/-- A block lent out in three shares. -/
theorem blk_shares (s b : Dev nD) (f : Buf (Elt F) ((s : Thread nD τ).loc cc0_scratch0)) :
    blk (F := F) s b fullShare f ⊣⊢ iprop(blk s b (lent 0) f ∗ blk s b (lent 1) f ∗ blk s b (lent 2) f) := by
  unfold blk
  have h1 := pointsTo_share (Ix := Unit) (Name := ℕ) (U := UU) (Lvl := ℕ) (ℓ := (s : Thread nD τ).loc cc0_scratch0) (I := rowsAt (64 * b.val) 64)
    (f := f) (PosShare.mem_left_op_right fullShare)
  have h2 := pointsTo_share (Ix := Unit) (Name := ℕ) (U := UU) (Lvl := ℕ) (ℓ := (s : Thread nD τ).loc cc0_scratch0) (I := rowsAt (64 * b.val) 64)
    (f := f) (PosShare.mem_left_op_right fullShare.right)
  exact ⟨h1.1.trans (sep_mono_right h2.1), (sep_mono_right h2.2).trans h1.2⟩

/-! ## Loads and stores of whole rows -/

section Access
variable (c : Dev nD) {α : Type} {S : Finset S256x128.Idx}

/-- Loading `n` whole rows that are owned. -/
theorem wp_load_rows {Q : α → sProp 𝕄} {off : Fin 2 → Nat} (lo n : Nat) {inb : ∀ a, off a + (![n, 128] : Fin 2 → Nat) a ≤ S256x128.size a}
    {hl : gat.view.LoadsAt (Rect.unit (s := S256x128) off ![n, 128] inb).toLoadRect}
    {k : ((Rows n).Idx → Elt F .f32) → Prog (TpuEff nD τ sig (Elt F) Λ₀ .tc) α}
    {q : PosShare TreeShare} {f : Buf (Elt F) ((c : Thread nD τ).loc cc0_scratch0)}
    (ho : off = ![lo, 0]) (h : lo + n ≤ 256) (hS : rowsAt lo n ⊆ S) :
    (((c : Thread nD τ).loc cc0_scratch0) ↦[S]{q} f : sProp 𝕄)
      ⊢ iprop(((((c : Thread nD τ).loc cc0_scratch0) ↦[S]{q} f) -∗ wp frame (wpE (defs₀ (F := F)) Variants.none (c : Thread nD τ) none) Set.univ (k (window lo n h f)) Q)
        -∗ wp frame (wpE (defs₀ (F := F)) Variants.none (c : Thread nD τ) none) Set.univ (.op (.load gat (Rect.unit (s := S256x128) off ![n, 128] inb).toLoadRect hl) k) Q) := by
  rw [← read_rows (F := F) (inb := inb) lo n ho h f]
  exact wp_load_rect (defs := defs₀ (F := F)) (Q := Q) Variants.none (c : Thread nD τ) none Set.univ (m := gat) (r := Rect.unit (s := S256x128) off ![n, 128] inb) (hl := hl) (k := k)
    (S := S) (q := q) (f := f) (by rw [set_rows lo n ho rfl]; exact hS)

/-- Storing `n` whole rows that are owned. -/
theorem wp_store_rows {Q : α → sProp 𝕄} {off : Fin 2 → Nat} (lo n : Nat) {inb : ∀ a, off a + (![n, 128] : Fin 2 → Nat) a ≤ S256x128.size a}
    {w : (Rows n).Idx → Elt F .f32}
    {hx : (gat.access (Rect.unit (s := S256x128) off ![n, 128] inb)).Stores Finset.univ} {hm}
    {k : PUnit → Prog (TpuEff nD τ sig (Elt F) Λ₀ .tc) α}
    {f : Buf (Elt F) ((c : Thread nD τ).loc cc0_scratch0)}
    (ho : off = ![lo, 0]) (hS : rowsAt lo n ⊆ S) :
    (((c : Thread nD τ).loc cc0_scratch0) ↦[S]{fullShare} f : sProp 𝕄)
      ⊢ iprop(((((c : Thread nD τ).loc cc0_scratch0) ↦[S]{fullShare} layRows lo n w f) -∗ wp frame (wpE (defs₀ (F := F)) Variants.none (c : Thread nD τ) none) Set.univ (k ⟨⟩) Q)
        -∗ wp frame (wpE (defs₀ (F := F)) Variants.none (c : Thread nD τ) none) Set.univ
          (.op (.store gat (Rect.unit (s := S256x128) off ![n, 128] inb) w Finset.univ hx hm) k) Q) := by
  rw [← write_rows (F := F) (inb := inb) lo n ho f w]
  exact wp_store (defs := defs₀ (F := F)) (Q := Q) Variants.none (c : Thread nD τ) none Set.univ (m := gat) (r := Rect.unit (s := S256x128) off ![n, 128] inb) (w := w) (Mk := Finset.univ)
    (hx := hx) (hm := hm) (k := k)
    (S := S) (f := f) (by
      show (gat.access (Rect.unit (s := S256x128) off ![n, 128] inb)).set ⊆ S
      rw [set_rows lo n ho rfl]; exact hS)

end Access

/-! ## Records: every cell's invariant, known to all -/

/-- A device's cells in order: the barrier, the three send semaphores, the three receive semaphores. -/
abbrev csem : Fin 7 → SemLoc sig
  | 0 => .reg barS
  | 1 => .dma (sendS 0)
  | 2 => .dma (sendS 1)
  | 3 => .dma (sendS 2)
  | 4 => .dma (recvS 0)
  | 5 => .dma (recvS 1)
  | 6 => .dma (recvS 2)
abbrev kcell (ck : Dev nD × Fin 7) : GSem nD τ sig := ((ck.1 : Thread nD τ), csem ck.2)

/-- The place of send semaphore `d`, … -/
abbrev sendAt (d : Fin 3) : Fin 7 := ⟨1 + d.val, by omega⟩
/-- … and of receive semaphore `d`. -/
abbrev recvAt (d : Fin 3) : Fin 7 := ⟨4 + d.val, by omega⟩

theorem kcell_send (c : Dev nD) (d : Fin 3) : kcell (c, sendAt d) = sendCell c d := by fin_cases d <;> rfl
theorem kcell_recv (c : Dev nD) (d : Fin 3) : kcell (c, recvAt d) = recvCell c d := by fin_cases d <;> rfl

variable (x : Dev nD → Vec F S128x64 .f32) (K : Dev nD × Fin 7 → ℕ)

/-- Every cell of every device has its invariant, under the names `K`, and has reached its round. -/
def records : sProp 𝕄 :=
  iprop((bigSep Finset.univ fun ck : Dev nD × Fin 7 => cellInv ER (sched x) (K ck) (kcell ck))
    ∗ bigSep Finset.univ fun ck : Dev nD × Fin 7 => reached ER (kcell ck) 0)

instance records_persistent : BI.Persistent (records x K) := by unfold records; infer_instance

theorem records_at (ck : Dev nD × Fin 7) : records x K ⊢ iprop(cellInv ER (sched x) (K ck) (kcell ck) ∗ reached ER (kcell ck) 0) := by
  unfold records
  exact BIClass.sep_mono (bigSep_elim (Finset.mem_univ ck)) (bigSep_elim (Finset.mem_univ ck))
theorem records_bar (c : Dev nD) : records x K ⊢ iprop(cellInv ER (sched x) (K (c, 0)) (barCell c) ∗ reached ER (barCell c) 0) :=
  records_at x K (c, 0)
theorem records_send (c : Dev nD) (d : Fin 3) :
    records x K ⊢ iprop(cellInv ER (sched x) (K (c, sendAt d)) (sendCell c d) ∗ reached ER (sendCell c d) 0) := by
  rw [← kcell_send]; exact records_at x K (c, sendAt d)
theorem records_recv (c : Dev nD) (d : Fin 3) :
    records x K ⊢ iprop(cellInv ER (sched x) (K (c, recvAt d)) (recvCell c d) ∗ reached ER (recvCell c d) 0) := by
  rw [← kcell_recv]; exact records_at x K (c, recvAt d)

/-! ## Signals, copies and waits -/

section Steps
variable (c : Dev nD) {α : Type}

/-- Giving signal `d`: the rows of the device `d + 1` ahead go to it. -/
theorem wp_signal_to {Q : α → sProp 𝕄} (d : Fin 3) (n : Dev nD) (hn : n = ahead c d) {k' : ℕ} (hk : k' = 1)
    {k : PUnit → Prog (TpuEff nD τ sig (Elt F) Λ₀ .tc) α}
    (O : CellTallies nD τ sig Unit) (W : Waits sig Unit) (f : Buf (Elt F) ((c : Thread nD τ).loc cc0_scratch0)) :
    iprop(records x K ∗ owes (c : Thread nD τ) (O + due c d) W ∗ dutyTok ER (barCell (ahead c d)) 0 d.rev ∗ blk c (ahead c d) fullShare f)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (Dev.tc n : Thread nD τ) barS k') k) Q) := by
  subst hn; subst hk
  iintro ⟨#HR, HO, Htok, Hb⟩ Hk
  ihave HI := (records_bar x K (ahead c d)) $$ HR
  icases HI with ⟨#HI, #Hr⟩
  iapply (Rounds.wp_signal Variants.none ER (sched x) (c : Thread nD τ) none (dst := (ahead c d : Thread nD τ)) (κ := K (ahead c d, 0))
      (d := d.rev) (by rw [duties_bar]; exact Finset.mem_univ _) (amount_bar x (ahead c d) d.rev) () O rfl) $$ [HO Htok Hb]
  · isplitr; · iexact HI
    isplitl [HO]; · iexact HO
    isplitl [Htok]; · iexact Htok
    isplitl [Hb]
    · rw [payload_bar]; unfold barPay; rw [ahead_rev]
      iexists f; iexact Hb
    iexact Hr
  iexact Hk

/-- The window of the copies is the device's own block. -/
theorem ownWin_set (b : Dev nD) : (ownWin gat b).view.set = rowsAt (64 * b.val) 64 :=
  set_rows (64 * b.val) 64 (off2_eq b) rfl

/-- Writing a block over what was read there elsewhere gives the same block. -/
theorem ownWin_copy (b : Dev nD) (f g : S256x128.Idx → Elt F .f32) :
    ∀ i ∈ rowsAt (64 * b.val) 64, (ownWin gat b).view.write (Elt F) f ((ownWin gat b).view.read (Elt F) g) Finset.univ i = g i := by
  intro i hi
  have hb : b.val < 4 := b.isLt
  have e : (ownWin gat b).view.write (Elt F) f ((ownWin gat b).view.read (Elt F) g) Finset.univ
      = layRows (64 * b.val) 64 (window (64 * b.val) 64 (by omega) g) f := by
    refine (write_rows (64 * b.val) 64 (off2_eq b) f _).trans (congrArg (fun w => layRows (64 * b.val) 64 w f) ?_)
    exact read_rows (64 * b.val) 64 (off2_eq b) (by omega) g
  rw [e]
  have hi := mem_rowsAt.mp hi
  unfold layRows window
  rw [dif_pos hi]
  refine congrArg g (?_ : _ = i)
  funext a
  match a with
  | ⟨0, _⟩ => exact Fin.ext (show 64 * b.val + ((i 0).val - 64 * b.val) = (i 0).val by omega)
  | ⟨1, _⟩ => rfl

/-- Issuing copy `d`: the share lent for it and the rows of the device ahead it writes are handed over. -/
theorem wp_copy_to {Q : α → sProp 𝕄} (d : Fin 3) (n : Dev nD) (hn : n = ahead c d)
    {hsc : (ownWin (gat : Memref sig (Dev.tc n : Thread nD τ).2.kind .vmem S256x128 .f32) c).view.ref.isScScratch = false}
    {hsrc : (ownWin gat c).view.WordExact} {hdst : (ownWin gat c).view.WordExact}
    {hsem : DmaTarget.Typed .vmem (.dma (recvS d)) (.remote (Dev.tc n : Thread nD τ) (ownWin gat c) (.dma (sendS d)) hsc)}
    {k : PUnit → Prog (TpuEff nD τ sig (Elt F) Λ₀ .tc) α}
    (O : CellTallies nD τ sig Unit) (W : Waits sig Unit) (f : Buf (Elt F) ((ahead c d : Thread nD τ).loc cc0_scratch0)) :
    iprop(records x K ∗ owes (c : Thread nD τ) (O + owe c d) W ∗ dutyTok ER (sendCell c d) 0 0 ∗ dutyTok ER (recvCell (ahead c d) d) 0 0
        ∗ blk c c (lent d) (gathered x) ∗ blk (ahead c d) c fullShare f)
      ⊢ iprop(((cred (tallyAt (sendCell c d) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (ownWin gat c) (.remote (Dev.tc n : Thread nD τ) (ownWin gat c) (.dma (sendS d)) hsc) (.dma (recvS d)) hsrc hdst hsem) k) Q) := by
  subst hn
  iintro ⟨#HR, HO, Hs, Hv, Hb, Hf⟩ Hk
  ihave HI := (records_send x K c d) $$ HR
  icases HI with ⟨#HI, #Hr⟩
  ihave HI' := (records_recv x K (ahead c d) d) $$ HR
  icases HI' with ⟨#HI', #Hr'⟩
  iapply (Rounds.wp_send_pointsTo (defs := defs₀ (F := F)) Variants.none ER (sched x) (c : Thread nD τ) none (c' := (ahead c d : Thread nD τ))
    (src := ownWin gat c) (dst := ownWin gat c) (κ₁ := K (c, sendAt d)) (κ₂ := K (ahead c d, recvAt d))
    (r₁ := 0) (r₂ := 0) (d₁ := 0) (d₂ := 0) (q := lent d) (fs := gathered x) (fd := f)
    (by rw [duties_send]; exact Finset.mem_singleton_self _) (by rw [duties_recv]; exact Finset.mem_singleton_self _)
    () () N rfl (amount_send x c d 0) (amount_recv x (ahead c d) d 0) O rfl (W := W)
    (by rw [payload_send, ownWin_set]; exact BI.Entails.refl _)
    (by
      rw [payload_recv, ownWin_set]; unfold recvPay; rw [ahead_rev]
      exact Entails.of_eq (pointsTo_congr (ownWin_copy c f (gathered x))))) $$ [HO Hs Hv Hb Hf]
  · isplitr; · iexact HI
    isplitr; · iexact HI'
    isplitl [Hb]; · rw [ownWin_set]; unfold blk; iexact Hb
    isplitl [Hf]; · rw [ownWin_set]; unfold blk; iexact Hf
    isplitl [HO]; · iexact HO
    isplitl [Hs]; · iexact Hs
    isplitr; · iexact Hr
    isplitl [Hv]; · iexact Hv
    iexact Hr'
  iexact Hk

/-- The wait for the three signals: the rows of the device's block in the three others' buffers come with it. -/
theorem wp_wait_bar {Q : α → sProp 𝕄} {k' : ℕ} (hk : k' = 3) {k : PUnit → Prog (TpuEff nD τ sig (Elt F) Λ₀ .tc) α} (W : Waits sig Unit) :
    iprop(records x K ∗ levAts L lv ∗ owes (c : Thread nD τ) (O₁ c) W ∗ cred (tallyAt (barCell c) () 3) ∗ atPos ER (barCell c) 0 ∅ 0)
      ⊢ iprop(((owes (c : Thread nD τ) (O₁ c) (insert (SemLoc.reg barS, ()) W) ∗ atPos ER (barCell c) 1 ∅ 0
            ∗ barPay (F := F) c 0 ∗ barPay (F := F) c 1 ∗ barPay (F := F) c 2)
          -∗ wp frame (wpE (defs₀ (F := F)) Variants.none (c : Thread nD τ) none) Set.univ (k ⟨⟩) Q)
          -∗ wp frame (wpE (defs₀ (F := F)) Variants.none (c : Thread nD τ) none) Set.univ (.op (.semWait barS k') k) Q) := by
  subst hk
  iintro ⟨#HR, #Hlev, HO, Hc, Hat⟩ Hk
  ihave HI := (records_bar x K c) $$ HR
  icases HI with ⟨#HI, -⟩
  iapply (Rounds.wp_wait_rest_token Variants.none ER (sched x) (c : Thread nD τ) none (κ := K (c, 0))
      (wpE_semWait_eq Variants.none (c : Thread nD τ) none Set.univ) (Set.mem_univ _) () (O := O₁ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar x c)) $$ Hpay
  iapply Hk
  isplitl [HO]; · iexact HO
  isplitl [Hat]; · iexact Hat
  iexact Hp

/-- The wait for a copy `d` to have left: the share lent for it is back. -/
theorem wp_wait_sent {Q : α → sProp 𝕄} (d : Fin 3) {m m' : Memref sig .tc .vmem S64x128 .f32} {h : m.view.WordExact} {h' : m'.view.WordExact}
    {k : PUnit → Prog (TpuEff nD τ sig (Elt F) Λ₀ .tc) α} (W : Waits sig Unit) :
    iprop(records x K ∗ owes (c : Thread nD τ) 0 W ∗ cred (tallyAt (sendCell c d) () N) ∗ atPos ER (sendCell c d) 0 ∅ 0)
      ⊢ iprop(((owes (c : Thread nD τ) 0 (insert (SemLoc.dma (sendS d), ()) W) ∗ atPos ER (sendCell c d) 1 ∅ 0 ∗ blk c c (lent d) (gathered x))
          -∗ wp frame (wpE (defs₀ (F := F)) Variants.none (c : Thread nD τ) none) Set.univ (k ⟨⟩) Q)
          -∗ wp frame (wpE (defs₀ (F := F)) Variants.none (c : Thread nD τ) none) Set.univ (.op (.waitDma2 (sendS d) m m' h h') k) Q) := by
  iintro ⟨#HR, HO, Hc, Hat⟩ Hk
  ihave HI := (records_send x K c d) $$ HR
  icases HI with ⟨#HI, -⟩
  iapply (Rounds.wp_wait_rest_token Variants.none ER (sched x) (c : Thread nD τ) none (κ := K (c, sendAt d))
      (wpE_waitDma2_eq Variants.none (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_send x c d).trans (show sendPay x c d = blk c c (lent d) (gathered x) from rfl))) $$ Hpay
  iapply Hk
  isplitl [HO]; · iexact HO
  isplitl [Hat]; · iexact Hat
  iexact Hp

/-- The wait for copy `d` to have arrived: the sender's rows come with it. -/
theorem wp_wait_got {Q : α → sProp 𝕄} (d : Fin 3) {m m' : Memref sig .tc .vmem S64x128 .f32} {h : m.view.WordExact} {h' : m'.view.WordExact}
    {k : PUnit → Prog (TpuEff nD τ sig (Elt F) Λ₀ .tc) α} (W : Waits sig Unit) :
    iprop(records x K ∗ owes (c : Thread nD τ) 0 W ∗ cred (tallyAt (recvCell c d) () N) ∗ atPos ER (recvCell c d) 0 ∅ 0)
      ⊢ iprop(((owes (c : Thread nD τ) 0 (insert (SemLoc.dma (recvS d), ()) W) ∗ atPos ER (recvCell c d) 1 ∅ 0 ∗ blk c (ahead c d.rev) fullShare (gathered x))
          -∗ wp frame (wpE (defs₀ (F := F)) Variants.none (c : Thread nD τ) none) Set.univ (k ⟨⟩) Q)
          -∗ wp frame (wpE (defs₀ (F := F)) Variants.none (c : Thread nD τ) none) Set.univ (.op (.waitDma2 (recvS d) m m' h h') k) Q) := by
  iintro ⟨#HR, HO, Hc, Hat⟩ Hk
  ihave HI := (records_recv x K c d) $$ HR
  icases HI with ⟨#HI, -⟩
  iapply (Rounds.wp_wait_rest_token Variants.none ER (sched x) (c : Thread nD τ) none (κ := K (c, recvAt d))
      (wpE_waitDma2_eq Variants.none (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_recv x c d).trans (show recvPay x c d = blk c (ahead c d.rev) fullShare (gathered x) from rfl))) $$ Hpay
  iapply Hk
  isplitl [HO]; · iexact HO
  isplitl [Hat]; · iexact Hat
  iexact Hp

/-- A device's cells, each past its round, give their counters back at zero. -/
theorem close_cell (k : Fin 7) :
    iprop(records x K ∗ atPos ER (kcell (c, k)) 1 ∅ 0) ⊢ iprop(|={Set.univ}=> semVal (kcell (c, k)) 0) := by
  iintro ⟨HR, Hat⟩
  ihave HI := (records_at x K (c, k)) $$ HR
  icases HI with ⟨HI, -⟩
  iapply (Rounds.cell_close ER (sched x) (Set.mem_univ (K (c, k))) (fun h => h) (R := 1) (duties_later x (kcell (c, k))))
  isplitl [HI] <;> iassumption

end Steps

end Cert.Merge

end
-- ==== Proof.Body.lean ====
/- The body of one device, run once for all devices: from its resources at the start to its output block
   holding `result` and every semaphore of its own back at zero. -/
module

public import proofs.«01_k».proof.Proof.Rows

@[expose] public section

set_option maxRecDepth 16384
set_option backward.isDefEq.respectTransparency false

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, every semaphore at zero. -/
def s₀ : MemSt nD τ sig (Elt F) := ⟨m, fun _ => 0, ρ⟩

/-- Device `c`'s input block, as its staging buffer holds it. -/
def xstg (c : Dev nD) : Vec F S128x64 .f32 :=
  (win0_0.blk (0 : Fin 1)).view.read (Elt F) ((s₀ m ρ).mem ((c : Thread nD τ).loc main_arg0))

/-! ## Small facts about contents -/

omit [FloatOps F] in
/-- All rows of contents are the contents. -/
theorem window_all (f : S256x128.Idx → Elt F .f32) : window 0 256 (by decide) f = f := by
  funext i
  refine congrArg f (?_ : _ = i)
  funext a
  match a with
  | ⟨0, _⟩ => exact Fin.ext (show 0 + (i 0).val = (i 0).val by omega)
  | ⟨1, _⟩ => rfl

omit [FloatOps F] in
/-- Replacing all rows forgets what was there. -/
theorem layRows_all (w f : S256x128.Idx → Elt F .f32) : layRows 0 256 w f = w := by
  funext i
  have hi : (i 0).val < 256 := (i 0).isLt
  unfold layRows
  rw [dif_pos ⟨by omega, by omega⟩]
  refine congrArg w (?_ : _ = i)
  funext a
  match a with
  | ⟨0, _⟩ => exact Fin.ext (show (i 0).val - 0 = (i 0).val by omega)
  | ⟨1, _⟩ => rfl

theorem crossed_eq (x : Dev nD → Vec F S128x64 .f32) :
    layRows 0 256 (wholeVal (window 0 256 (by decide) (merged x))) (merged x) = crossed x := by
  rw [layRows_all, window_all]; rfl

/-- A block not of the device's pair is as gathered after the pair's merge. -/
theorem mergedNear_far (x : Dev nD → Vec F S128x64 .f32) (c : Dev nD) :
    ∀ i ∈ rowsAt (64 * (ahead c 1).val) 64, gathered x i = mergedNear x c i := by
  intro i hi
  unfold mergedNear layRows
  rw [dif_neg (near_avoids hi)]

/-- The output staging buffer. -/
abbrev outM : Memref sig .tc .vmem S128x64 .f32 := Memref.whole cc0_stg1_0

omit [FloatOps F] in
theorem emb_half {lo : Nat} {inb : ∀ a, (![lo, 0] : Fin 2 → Nat) a + S64x64.size a ≤ S128x64.size a} (i : S64x64.Idx) (h : lo + (i 0).val < 128) :
    (outM.access (Rect.unit (s := S128x64) ![lo, 0] S64x64.size inb)).emb i = ix2 (n0 := 128) (n1 := 64) ⟨lo + (i 0).val, h⟩ (i 1) := by
  funext a
  match a with
  | ⟨0, _⟩ => exact Fin.ext (show lo + 1 * (i 0).val = lo + (i 0).val by omega)
  | ⟨1, _⟩ => exact Fin.ext (show 0 + 1 * (i 1).val = (i 1).val by omega)

omit [FloatOps F] in
/-- Storing 64 rows of the output block, on those rows. -/
theorem write_half_on {lo : Nat} {inb : ∀ a, (![lo, 0] : Fin 2 → Nat) a + S64x64.size a ≤ S128x64.size a}
    (f : S128x64.Idx → Elt F .f32) (w : S64x64.Idx → Elt F .f32) (i : S128x64.Idx) (h : lo ≤ (i 0).val) (h' : (i 0).val - lo < 64) :
    (outM.access (Rect.unit (s := S128x64) ![lo, 0] S64x64.size inb)).write (Elt F) f w Finset.univ i
      = w (ix2 (n0 := 64) (n1 := 64) ⟨(i 0).val - lo, h'⟩ (i 1)) := by
  have hi : (outM.access (Rect.unit (s := S128x64) ![lo, 0] S64x64.size inb)).emb
      (ix2 (n0 := 64) (n1 := 64) ⟨(i 0).val - lo, h'⟩ (i 1)) = i := by
    have hb : (i 0).val < 128 := (i 0).isLt
    rw [emb_half _ (by show lo + ((i 0).val - lo) < 128; omega)]
    funext a
    match a with
    | ⟨0, _⟩ => exact Fin.ext (show lo + ((i 0).val - lo) = (i 0).val by omega)
    | ⟨1, _⟩ => rfl
  exact (congrArg ((outM.access (Rect.unit (s := S128x64) ![lo, 0] S64x64.size inb)).write (Elt F) f w Finset.univ) hi.symm).trans
    (View.write_emb_of_mem (v := outM.access (Rect.unit (s := S128x64) ![lo, 0] S64x64.size inb)) (Val := Elt F) f w (Finset.mem_univ _))

omit [FloatOps F] in
/-- Storing 64 rows of the output block, on the other rows. -/
theorem write_half_off {lo : Nat} {inb : ∀ a, (![lo, 0] : Fin 2 → Nat) a + S64x64.size a ≤ S128x64.size a}
    (f : S128x64.Idx → Elt F .f32) (w : S64x64.Idx → Elt F .f32) (i : S128x64.Idx) (h : (i 0).val < lo) :
    (outM.access (Rect.unit (s := S128x64) ![lo, 0] S64x64.size inb)).write (Elt F) f w Finset.univ i = f i := by
  refine View.write_of_not_mem (v := outM.access (Rect.unit (s := S128x64) ![lo, 0] S64x64.size inb)) (Val := Elt F) f w Finset.univ fun hm => ?_
  have hm' : i ∈ (outM.access (Rect.unit (s := S128x64) ![lo, 0] S64x64.size inb)).set := hm
  rw [show (outM.access (Rect.unit (s := S128x64) ![lo, 0] S64x64.size inb)).set = (Rect.unit (s := S128x64) ![lo, 0] S64x64.size inb).set from
    View.set_slice_whole cc0_stg1_0 _, Rect.mem_set_unit] at hm'
  have h0 := (hm' 0).1
  exact absurd h0 (by show ¬ lo ≤ (i 0).val; omega)

/-- The two stores of the output make the result. -/
theorem write_result (x : Dev nD → Vec F S128x64 .f32) (c : Dev nD) (f : S128x64.Idx → Elt F .f32) :
    (outM.access (Rect.unit (s := S128x64) ![64, 0] S64x64.size inb_S128x64_S64x64_64_0)).write (Elt F)
      ((outM.access (Rect.unit (s := S128x64) ![0, 0] S64x64.size inb_S128x64_S64x64_0_0)).write (Elt F) f
        (leftVal (ownRows c (crossed x))) Finset.univ)
      (rightVal (ownRows c (crossed x))) Finset.univ = result x c := by
  funext i
  have hi : (i 0).val < 128 := (i 0).isLt
  unfold result
  by_cases h : (i 0).val < 64
  · rw [dif_pos h]
    exact (write_half_off (F := F) (lo := 64) _ _ i h).trans (write_half_on (F := F) (lo := 0) _ _ i (Nat.zero_le _) (by omega))
  · rw [dif_neg h]
    exact write_half_on (F := F) (lo := 64) _ _ i (by omega) (by omega)

omit [FloatOps F] in
theorem zeros : (![0, 0] : Fin 2 → Nat) = fun _ => 0 := funext fun a => by fin_cases a <;> rfl

/-- Loading the whole input block. -/
theorem wp_load_input (c : Dev nD) {α : Type} {Q : α → sProp 𝕄} {inb : ∀ a, (![0, 0] : Fin 2 → Nat) a + (![128, 64] : Fin 2 → Nat) a ≤ S128x64.size a}
    {hl : (Memref.whole cc0_stg0_0 : Memref sig .tc .vmem S128x64 .f32).view.LoadsAt (Rect.unit (s := S128x64) ![0, 0] ![128, 64] inb).toLoadRect}
    {k : (S128x64.Idx → Elt F .f32) → Prog (TpuEff nD τ sig (Elt F) Λ₀ .tc) α} {f : Vec F S128x64 .f32} :
    (((c : Thread nD τ).loc cc0_stg0_0) ↦{fullShare} f : sProp 𝕄)
      ⊢ iprop(((((c : Thread nD τ).loc cc0_stg0_0) ↦{fullShare} f) -∗ wp frame (wpE (defs₀ (F := F)) Variants.none (c : Thread nD τ) none) Set.univ (k f) Q)
        -∗ wp frame (wpE (defs₀ (F := F)) Variants.none (c : Thread nD τ) none) Set.univ
          (.op (.load (Memref.whole cc0_stg0_0 : Memref sig .tc .vmem S128x64 .f32) (Rect.unit (s := S128x64) ![0, 0] ![128, 64] inb).toLoadRect hl) k) Q) := by
  have e : (Memref.whole cc0_stg0_0 : Memref sig .tc .vmem S128x64 .f32).view.readAt (Elt F) (Rect.unit (s := S128x64) ![0, 0] ![128, 64] inb).toLoadRect f = f :=
    Memref.readAt_unit_zero (Elt F) cc0_stg0_0 zeros inb f
  exact (wp_load Variants.none (c : Thread nD τ) none Set.univ (m := (Memref.whole cc0_stg0_0 : Memref sig .tc .vmem S128x64 .f32)) (hl := hl) (k := k) (Finset.subset_univ _)).trans
    (Entails.of_eq (by rw [e]))

/-! ## What a device starts from and ends with -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The rights to the payments of index `d` a device makes: the end of copy `d` on its own semaphore, its
    arrival on the receiver's, and signal `d`. -/
def payRights (c : Dev nD) (d : Fin 3) : sProp 𝕄 :=
  iprop(dutyTok ER (sendCell c d) 0 0 ∗ dutyTok ER (recvCell (ahead c d) d) 0 0 ∗ dutyTok ER (barCell (ahead c d)) 0 d.rev)

/-- The protocol's state a device starts from. -/
def ghost (K : Dev nD × Fin 7 → ℕ) (c : Dev nD) : sProp 𝕄 :=
  iprop(records (xstg m ρ) K ∗ (bigSep Finset.univ fun k : Fin 7 => atPos ER (kcell (c, k)) 0 ∅ 0) ∗ bigSep Finset.univ (payRights (F := F) c))

/-- What a device may wait for: three signals and three copies. -/
def claims (c : Dev nD) : sProp 𝕄 :=
  iprop(cred (tallyAt (barCell c) () 3) ∗ bigSep Finset.univ fun d : Fin 3 => cred (tallyAt (recvCell c d) () N))

/-- What a device starts from besides its buffers. -/
def start (c : Dev nD) : sProp 𝕄 := iprop((∃ K, ghost m ρ K c) ∗ claims (F := F) c ∗ levAts L lv)

/-- A device's gather buffer at some contents. -/
def scratch (c : Dev nD) : sProp 𝕄 := iprop(∃ f, rows (F := F) c Finset.univ f)

/-- Before the body: the start and the gather buffer. -/
def Φ₀ (c : Dev nD) : sProp 𝕄 := iprop(start m ρ c ∗ scratch (F := F) c)
/-- After it: the gather buffer, and every semaphore at zero. -/
def Φ₁ (c : Dev nD) : sProp 𝕄 := iprop(scratch (F := F) c ∗ bigSep Finset.univ fun k : Fin 7 => semVal (kcell (c, k)) 0)

/-- The pipeline's proof data: the input as it was, the output holding the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => result (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_in (t : Fin cfg0.N) : (cfg0.win (0 : Fin 2)).fetch t = true := by rw [fin_N0 t]; rfl

omit [FloatOps F] in
/-- Owning a staging buffer whole, by its contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body, with the staging buffers. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- After the body, with the staging buffers. -/
def bodyPost (c : Dev nD) : sProp 𝕄 :=
  iprop(Φ₁ (F := F) c ∗ (dats m ρ 0 c).owesAt () t0_0.succ ∗ stg c cc0_stg0_0 (xstg m ρ c) ∗ stg c cc0_stg1_0 (result (xstg m ρ) c))

omit [FloatOps F] in
/-- A persistent fact is at hand at every index. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All of a device's cells past their round give their counters back at zero. -/
theorem close_cells (K : Dev nD × Fin 7 → ℕ) (c : Dev nD) :
    iprop(records (xstg m ρ) K ∗ bigSep Finset.univ fun k : Fin 7 => atPos ER (kcell (c, k)) 1 ∅ 0)
      ⊢ iprop(|={Set.univ}=> bigSep Finset.univ fun k : Fin 7 => semVal (kcell (c, k)) 0 : sProp 𝕄) :=
  (bigSep_with fun k _ => close_cell (xstg m ρ) K c k).trans (bigSep_fupd _ _)

set_option maxHeartbeats 1600000 in
/-- The body, operation by operation. -/
theorem body_run (c : Dev nD) (Kt : PUnit → sProp 𝕄) :
    iprop(bodyPre m ρ c ∗ (bodyPost m ρ c -∗ Kt ⟨⟩))
      ⊢ wp frame (wpE (defs₀ (F := F)) Variants.none c none) Set.univ
          (steps (Memref.whole cc0_stg0_0) (Memref.whole cc0_stg1_0) (Memref.whole cc0_scratch0) cc0_scratch1 cc0_scratch2) Kt := by
  unfold steps
  simp only [semSignalWord, semWaitWord, Prog.lift, Prog.bind_op, Prog.bind_ret, Prog.pure_eq_ret, wp_deviceId]
  unfold bodyPre Φ₀ start ghost claims scratch
  rw [bigSep_three, bigSep_three, bigSep_seven, show (fun f => rows (F := F) c Finset.univ f) = _ from funext fun f => rows_four c f]
  unfold payRights
  iintro ⟨⟨⟨⟨⟨%K, #HR, ⟨AtB, At0, At1, At2, At4, At5, At6⟩, ⟨Ts0, Tv0, Tb0⟩, ⟨Ts1, Tv1, Tb1⟩, ⟨Ts2, Tv2, Tb2⟩⟩,
      ⟨CB, C0, C1, C2⟩, #Hlev⟩, ⟨%f0, B0, Ba0, Ba1, Ba2⟩⟩,
    Ho, ⟨%d0, %g0, %hg0, Hx⟩, ⟨%d1, %g1, %hg1, Hout⟩⟩, Hk⟩
  have hx : g0 = xstg m ρ c := by rw [hg0]; unfold Dat.before; rw [if_pos (fetch_in t0_0)]; rfl
  subst hx
  unfold Dat.owesAt Pipeline.owesWithin
  icases Ho with ⟨%W, %hW, HO⟩
  rw [show (dats m ρ 0 c).owed t0_0.castSucc = O₁ c + due c 2 + due c 1 + due c 0 from rfl]
  iapply (wp_signal_to (xstg m ρ) K c 0 _ (dev1_eq c) (by decide) (O₁ c + due c 2 + due c 1) W f0) $$ [HO Tb0 Ba0]
  · isplitr; · iexact HR
    isplitl [HO]; · iexact HO
    isplitl [Tb0] <;> iassumption
  iintro HO
  iapply (wp_signal_to (xstg m ρ) K c 1 _ (dev2_eq c) (by decide) (O₁ c + due c 2) W f0) $$ [HO Tb1 Ba1]
  · isplitr; · iexact HR
    isplitl [HO]; · iexact HO
    isplitl [Tb1] <;> iassumption
  iintro HO
  iapply (wp_signal_to (xstg m ρ) K c 2 _ (dev3_eq c) (by decide) (O₁ c) W f0) $$ [HO Tb2 Ba2]
  · isplitr; · iexact HR
    isplitl [HO]; · iexact HO
    isplitl [Tb2] <;> iassumption
  iintro HO
  iapply (wp_wait_bar (xstg m ρ) K c (by decide) W) $$ [HO CB AtB]
  · isplitr; · iexact HR
    isplitr; · iexact Hlev
    isplitl [HO]; · iexact HO
    isplitl [CB] <;> iassumption
  unfold barPay O₁
  iintro ⟨HO, AtB, ⟨%p0, P0⟩, ⟨%p1, P1⟩, ⟨%p2, P2⟩⟩
  iapply (wp_load_input c) $$ Hx; iintro Hx
  ihave B0 := (show blk c c fullShare f0 ⊢ (((c : Thread nD τ).loc cc0_scratch0) ↦[rowsAt (64 * c.val) 64]{fullShare} f0 : sProp 𝕄) from
    Entails.of_eq rfl) $$ B0
  iapply (wp_load_rows c (64 * c.val) 64 (off1_eq c) (by have : c.val < 4 := c.isLt; omega) (Finset.Subset.refl _)) $$ B0; iintro B0
  iapply (wp_store_rows c (64 * c.val) 64 (off1_eq c) (Finset.Subset.refl _)) $$ B0; iintro B0
  ihave B0 := (Entails.of_eq (pointsTo_congr (layRows_own (xstg m ρ) c f0))) $$ B0
  ihave B0 := ((show ((((c : Thread nD τ).loc cc0_scratch0) ↦[rowsAt (64 * c.val) 64]{fullShare} gathered (xstg m ρ)) : sProp 𝕄)
    ⊢ blk c c fullShare (gathered (xstg m ρ)) from Entails.of_eq rfl).trans (blk_shares c c (gathered (xstg m ρ))).1) $$ B0
  icases B0 with ⟨S0, S1, S2⟩
  iapply (wp_copy_to (xstg m ρ) K c 0 _ (dev4_eq c) (owe c 2 + owe c 1) _ p0) $$ [HO Ts0 Tv0 S0 P0]
  · isplitr; · iexact HR
    isplitl [HO]; · iexact HO
    isplitl [Ts0]; · iexact Ts0
    isplitl [Tv0]; · iexact Tv0
    isplitl [S0]; · iexact S0
    iexact P0
  iintro ⟨D0, HO⟩
  iapply (wp_copy_to (xstg m ρ) K c 1 _ (dev5_eq c) (owe c 2) _ p1) $$ [HO Ts1 Tv1 S1 P1]
  · isplitr; · iexact HR
    isplitl [HO]; · iexact HO
    isplitl [Ts1]; · iexact Ts1
    isplitl [Tv1]; · iexact Tv1
    isplitl [S1]; · iexact S1
    iexact P1
  iintro ⟨D1, HO⟩
  iapply (wp_copy_to (xstg m ρ) K c 2 _ (dev6_eq c) 0 _ p2) $$ [HO Ts2 Tv2 S2 P2]
  · isplitr; · iexact HR
    isplitl [HO]; · rw [zero_add]; iexact HO
    isplitl [Ts2]; · iexact Ts2
    isplitl [Tv2]; · iexact Tv2
    isplitl [S2]; · iexact S2
    iexact P2
  iintro ⟨D2, HO⟩
  iapply (wp_wait_sent (xstg m ρ) K c 0 _) $$ [HO D0 At0]
  · isplitr; · iexact HR
    isplitl [HO]; · iexact HO
    isplitl [D0] <;> iassumption
  iintro ⟨HO, At0, S0⟩
  iapply (wp_wait_sent (xstg m ρ) K c 1 _) $$ [HO D1 At1]
  · isplitr; · iexact HR
    isplitl [HO]; · iexact HO
    isplitl [D1] <;> iassumption
  iintro ⟨HO, At1, S1⟩
  iapply (wp_wait_sent (xstg m ρ) K c 2 _) $$ [HO D2 At2]
  · isplitr; · iexact HR
    isplitl [HO]; · iexact HO
    isplitl [D2] <;> iassumption
  iintro ⟨HO, At2, S2⟩
  ihave B0 := (blk_shares c c (gathered (xstg m ρ))).2 $$ [S0 S1 S2]
  · isplitl [S0]; · iexact S0
    isplitl [S1] <;> iassumption
  iapply (wp_wait_got (xstg m ρ) K c 0 _) $$ [HO C0 At4]
  · isplitr; · iexact HR
    isplitl [HO]; · iexact HO
    isplitl [C0] <;> iassumption
  iintro ⟨HO, At4, B3⟩
  iapply (wp_wait_got (xstg m ρ) K c 2 _) $$ [HO C2 At6]
  · isplitr; · iexact HR
    isplitl [HO]; · iexact HO
    isplitl [C2] <;> iassumption
  iintro ⟨HO, At6, B1⟩
  ihave B := (Entails.of_eq (rows_around c (gathered (xstg m ρ))).symm) $$ [B0 B1 B3]
  · isplitl [B0]; · iexact B0
    isplitl [B1]; · iexact B1
    iexact B3
  unfold rows
  have hc : c.val < 4 := c.isLt
  iapply (wp_load_rows c (128 * (c.val / 2)) 128 (off3_eq c) (by omega) (near_subset c)) $$ B; iintro B
  iapply (wp_load_rows c (128 * (c.val / 2)) 128 (off3_eq c) (by omega) (near_subset c)) $$ B; iintro B
  iapply (wp_store_rows c (128 * (c.val / 2)) 128 (off3_eq c) (near_subset c)) $$ B; iintro B
  iapply (wp_wait_got (xstg m ρ) K c 1 _) $$ [HO C1 At5]
  · isplitr; · iexact HR
    isplitl [HO]; · iexact HO
    isplitl [C1] <;> iassumption
  iintro ⟨HO, At5, B2⟩
  ihave B2 := (show blk c (ahead c (Fin.rev 1)) fullShare (gathered (xstg m ρ)) ⊢ blk c (ahead c 1) fullShare (mergedNear (xstg m ρ) c) from
    Entails.of_eq (pointsTo_congr (mergedNear_far (xstg m ρ) c))) $$ B2
  ihave B := ((rows_complete c (mergedNear (xstg m ρ) c)).trans (Entails.of_eq (rows_univ c _))) $$ [B B2]
  · isplitl [B]; · unfold rows mergedNear; iexact B
    iexact B2
  iapply (wp_load_rows c (128 * (1 - c.val / 2)) 128 (off4_eq c) (by omega) (Finset.subset_univ _)) $$ B; iintro B
  iapply (wp_load_rows c (128 * (1 - c.val / 2)) 128 (off4_eq c) (by omega) (Finset.subset_univ _)) $$ B; iintro B
  iapply (wp_store_rows c (128 * (1 - c.val / 2)) 128 (off4_eq c) (Finset.subset_univ _)) $$ B; iintro B
  rw [mergedFar_eq]
  iapply (wp_load_rows c 0 256 rfl (by decide) (Finset.subset_univ _)) $$ B; iintro B
  iapply (wp_load_rows c 0 256 rfl (by decide) (Finset.subset_univ _)) $$ B; iintro B
  iapply (wp_store_rows c 0 256 rfl (Finset.subset_univ _)) $$ B; iintro B
  rw [crossed_eq]
  iapply (wp_load_rows c (64 * c.val) 64 (off1_eq c) (by omega) (Finset.subset_univ _)) $$ B; iintro B
  iapply (wp_load Variants.none (c : Thread nD τ) none Set.univ (m := outM) (Finset.subset_univ _)) $$ Hout; iintro Hout
  iapply (wp_store Variants.none (c : Thread nD τ) none Set.univ (m := outM) (r := Rect.unit (s := S128x64) ![0, 0] S64x64.size inb_S128x64_S64x64_0_0) (Mk := Finset.univ) (Finset.subset_univ _)) $$ Hout; iintro Hout
  iapply (wp_load Variants.none (c : Thread nD τ) none Set.univ (m := outM) (Finset.subset_univ _)) $$ Hout; iintro Hout
  iapply (wp_store Variants.none (c : Thread nD τ) none Set.univ (m := outM) (r := Rect.unit (s := S128x64) ![64, 0] S64x64.size inb_S128x64_S64x64_64_0) (Mk := Finset.univ) (Finset.subset_univ _)) $$ Hout; iintro Hout
  imod (close_cells m ρ K c) $$ [AtB At0 At1 At2 At4 At5 At6] with Hz
  · isplitr; · iexact HR
    rw [bigSep_seven]
    isplitl [AtB]; · iexact AtB
    isplitl [At0]; · iexact At0
    isplitl [At1]; · iexact At1
    isplitl [At2]; · iexact At2
    isplitl [At4]; · iexact At4
    isplitl [At5] <;> iassumption
  rw [wp_ret]; imodintro
  iapply Hk
  unfold bodyPost Φ₁ scratch Dat.owesAt Pipeline.owesWithin
  rw [show (dats m ρ 0 c).owed t0_0.succ = 0 from rfl]
  isplitl [B Hz]
  · isplitl [B]
    · iexists (crossed (xstg m ρ)); rw [rows_univ]; iexact B
    iexact Hz
  isplitl [HO]
  · iexists _
    isplitr
    rotate_left
    · iexact HO
    ipureintro; exact fun _ _ => Or.inl trivial
  isplitl [Hx]
  · iexists _; isplitr; · (ipureintro; rfl)
    iexact Hx
  iexists _
  isplitr
  rotate_left
  · iexact Hout
  ipureintro; exact write_result (xstg m ρ) c g1

/-- The body as the library asks for it. -/
theorem body_obligation (c : Dev nD) : BodyObligation (dats (F := F) m ρ 0 c) (defs₀ (F := F)) Variants.none () Set.univ := fun t => by
  rw [fin_N0 t]
  rw [bigSep_W0, bigSep_W0]
  simp only [owns_whole]
  show bodyPre m ρ c ⊢ wp frame (wpE (defs₀ (F := F)) Variants.none c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  rw [body_eq_steps]
  iintro H
  iapply (body_run m ρ c fun _ => bodyPost m ρ c)
  isplitl [H]; · iexact H
  iintro H; iexact H

end Cert.Merge

end
-- ==== Proof.Launch.lean ====
/- The launch: how the protocol's state is made at the start and dealt to the devices, and the run of the whole
   program that follows from the body's. -/
module

public import proofs.«01_k».proof.Proof.Body
public import Idealize.ShloMosaic.Lib.Pipeline.CollectiveSegs

@[expose] public section

set_option maxRecDepth 16384

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and rights to pay, as sets -/

/-- The kernel's own semaphores: the send and the receive ones. -/
abbrev osem : Fin 6 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells. -/
def allCells : Finset (GSem nD τ sig) := Finset.univ.map ⟨kcell, kcell_injective⟩

/-- The right to payment `j` of index `d` on device `c`, listed under the device that pays. -/
abbrev rightOf (r : Dev nD × Fin 3 × Fin 3) : GSem nD τ sig × ℕ × Fin 3 :=
  match r.2.2 with
  | 0 => (sendCell r.1 r.2.1, 0, 0)
  | 1 => (recvCell (ahead r.1 r.2.1) r.2.1, 0, 0)
  | 2 => (barCell (ahead r.1 r.2.1), 0, r.2.1.rev)

theorem rightOf_injective : Function.Injective rightOf := by
  have key : ∀ r r', rightOf r = rightOf r' → r = r' := by decide +kernel
  exact fun r r' h => key r r' h

/-- All rights to pay. -/
def allRights : Finset (GSem nD τ sig × ℕ × Fin 3) := Finset.univ.map ⟨rightOf, rightOf_injective⟩

/-- The algebra's element at launch. -/
def u₀ : UU := (initOf (Pipeline.cells cfgs cellOf_inj) (Pipeline.launchToks cfgs cellOf_inj), initOf allCells allRights)

/-- What that element deals a device: its cells' states and its rights to pay. -/
def dealt (c : Dev nD) : sProp 𝕄 :=
  iprop((bigSep Finset.univ fun k : Fin 7 => roundState ER (sched (xstg m ρ)) (kcell (c, k)) 0)
    ∗ (bigSep Finset.univ fun k : Fin 7 => atPos ER (kcell (c, k)) 0 ∅ 0) ∗ (bigSep Finset.univ fun k : Fin 7 => reached ER (kcell (c, k)) 0)
    ∗ bigSep Finset.univ (payRights (F := F) c))

/-- What a device has once every cell has its invariant. -/
def ready (c : Dev nD) : sProp 𝕄 := iprop(∃ K, ghost m ρ K c)

theorem fund_cells : BI.own (ER (initOf allCells allRights)) ⊢ (|==> bigSep Finset.univ (dealt m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allRights (fun r => (dutyTok ER r.1 r.2.1 r.2.2 : sProp 𝕄)) = bigSep Finset.univ fun c : Dev nD => bigSep Finset.univ (payRights (F := F) c) := by
    unfold allRights; rw [bigSep_map, bigSep_univ_prod]
    refine bigSep_congr fun c _ => ?_
    rw [bigSep_univ_prod]
    exact bigSep_congr fun d _ => by rw [bigSep_three]; rfl
  iintro HX
  imod (Rounds.fund ER (sched (xstg m ρ)) allCells allRights) $$ HX with ⟨Hst, Hr, Hat, Htok⟩
  imodintro
  ihave Hst' := (Entails.of_eq (hX fun g => roundState ER (sched (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

/-! ## The semaphores at zero become the cells' invariants -/

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- The own semaphores and the barrier are a device's seven cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨HS, HB⟩
  isplitl [HB] <;> iassumption

theorem cells_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Fin 7 => iprop(∃ κ : ℕ, cellInv ER (sched (xstg m ρ)) κ (kcell (c, k))))
          ∗ (bigSep Finset.univ fun k : Fin 7 => atPos ER (kcell (c, k)) 0 ∅ 0) ∗ (bigSep Finset.univ fun k : Fin 7 => reached ER (kcell (c, k)) 0)
          ∗ bigSep Finset.univ (payRights (F := F) c)) := by
  unfold dealt
  iintro ⟨Hos, Hus, Hst, Hrest⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched (xstg m ρ)) (kcell (c, k)) 0)
      ⊢ (|={Set.univ}=> bigSep Finset.univ fun k : Fin 7 => iprop(∃ κ : ℕ, cellInv ER (sched (xstg m ρ)) κ (kcell (c, k))) : sProp 𝕄) from by
        rw [← bigSep_sep']
        exact (bigSep_mono fun k _ => (Rounds.body_intro ER (sched (xstg m ρ)) (kcell (c, k))).trans inv_alloc).trans (bigSep_fupd _ _)) $$ [Hv Hst] with Hinv
  · isplitl [Hv] <;> iassumption
  imodintro
  isplitl [Hinv] <;> iassumption

/-- Every device's cells together give the records all devices share. -/
theorem share_records :
    (bigSep Finset.univ fun c : Dev nD => iprop((bigSep Finset.univ fun k : Fin 7 => iprop(∃ κ : ℕ, cellInv ER (sched (xstg m ρ)) κ (kcell (c, k))))
          ∗ (bigSep Finset.univ fun k : Fin 7 => atPos ER (kcell (c, k)) 0 ∅ 0) ∗ (bigSep Finset.univ fun k : Fin 7 => reached ER (kcell (c, k)) 0)
          ∗ bigSep Finset.univ (payRights (F := F) c)) : sProp 𝕄)
      ⊢ bigSep Finset.univ (ready m ρ) := by
  rw [bigSep_sep', bigSep_sep', bigSep_sep', ← bigSep_univ_prod (fun ck : Dev nD × Fin 7 => iprop(∃ κ : ℕ, cellInv ER (sched (xstg m ρ)) κ (kcell ck))),
    ← bigSep_univ_prod (fun ck : Dev nD × Fin 7 => (reached ER (kcell ck) 0 : sProp 𝕄))]
  iintro ⟨HI, Hat, #HR, Htok⟩
  ihave HK := (BI.bigSep_exists_pi Finset.univ (fun (ck : Dev nD × Fin 7) (κ : ℕ) => (cellInv ER (sched (xstg m ρ)) κ (kcell ck) : sProp 𝕄))) $$ HI
  icases HK with ⟨%K, #HI⟩
  iapply (bigSep_with (R := records (xstg m ρ) K)
    (Φ := fun c : Dev nD => iprop((bigSep Finset.univ fun k : Fin 7 => atPos ER (kcell (c, k)) 0 ∅ 0) ∗ bigSep Finset.univ (payRights (F := F) c))) fun c _ => by
      unfold ready ghost
      iintro ⟨#H, H'⟩
      iexists K
      isplitr; · iexact H
      iexact H')
  isplitr
  · unfold records; isplitl; · iexact HI
    iexact HR
  · rw [bigSep_sep']
    isplitl [Hat] <;> iassumption

/-- From all semaphores at zero and what was dealt, every device is ready. -/
theorem make_ready : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => cells_alloc m ρ c).trans (bigSep_fupd _ _)).trans (BI.fupd_mono (share_records m ρ))

/-! ## What is owed to a device -/

theorem bar_eq_iff {a b : Dev nD} : Iff (barCell a = barCell b) (a = b) :=
  ⟨fun h => congrArg (fun g : GSem nD τ sig => g.1.1) h, fun h => h ▸ rfl⟩
theorem recv_eq_iff {a b : Dev nD} {e e' : Fin 3} : Iff (recvCell a e = recvCell b e') (a = b ∧ e = e') := by
  constructor
  · intro h
    refine ⟨congrArg (fun g : GSem nD τ sig => g.1.1) h, ?_⟩
    have h2 : (SemLoc.dma (recvS e) : SemLoc sig) = .dma (recvS e') := congrArg Prod.snd h
    clear h; revert h2; revert e e'; decide
  · rintro ⟨rfl, rfl⟩; rfl
theorem recv_ne_bar (a b : Dev nD) (e : Fin 3) : recvCell a e ≠ barCell b := fun h => by
  have h2 : (SemLoc.dma (recvS e) : SemLoc sig) = .reg barS := congrArg Prod.snd h
  cases h2

/-- What device `d` owes the barrier of device `c`. -/
theorem owed_bar (d c : Dev nD) : O₀ d (barCell c) ()
    = (if c = ahead d 2 then 1 else 0) + (if c = ahead d 1 then 1 else 0) + (if c = ahead d 0 then 1 else 0) := by
  unfold O₀ O₁
  simp only [Pi.add_apply, Finsupp.add_apply, tallyAt_apply, bar_eq_iff, and_true, (recv_ne_bar _ _ _).symm, if_false, Nat.zero_add, Nat.add_zero, false_and]

/-- What device `d` owes receive semaphore `e` of device `c`. -/
theorem owed_recv (d c : Dev nD) (e : Fin 3) : O₀ d (recvCell c e) () = if d = ahead c e.rev then N else 0 := by
  have key : ∀ (d c : Dev nD) (e : Fin 3), Iff (d = ahead c e.rev) (c = ahead d e) := by decide
  unfold O₀ O₁
  simp only [Pi.add_apply, Finsupp.add_apply, tallyAt_apply, recv_eq_iff, and_true, recv_ne_bar, if_false, Nat.add_zero, false_and]
  rw [if_congr (key d c e) rfl rfl]
  match e with
  | 0 => rw [if_neg (fun h => absurd (recv_eq_iff.mp h).2 (by decide)), if_neg (fun h => absurd (recv_eq_iff.mp h).2 (by decide)), Nat.zero_add]; exact if_congr (recv_eq_iff.trans (and_iff_left rfl)) rfl rfl
  | 1 => rw [if_neg (fun h => absurd (recv_eq_iff.mp h).2 (by decide)), Nat.zero_add, add_eq_left.mpr (if_neg fun h => absurd (recv_eq_iff.mp h).2 (by decide))]; exact if_congr (recv_eq_iff.trans (and_iff_left rfl)) rfl rfl
  | 2 => rw [add_assoc, add_eq_left.mpr (by rw [if_neg (fun h => absurd (recv_eq_iff.mp h).2 (by decide)), if_neg (fun h => absurd (recv_eq_iff.mp h).2 (by decide)), Nat.add_zero])]; exact if_congr (recv_eq_iff.trans (and_iff_left rfl)) rfl rfl

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in
theorem launch_recv (c : Dev nD) (e : Fin 3) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e,
    Finset.sum_ite_eq' Finset.univ (ahead c e.rev) fun _ => N, if_pos (Finset.mem_univ _)]

omit [FloatOps F] in
/-- The launch gives every device the claims it waits by. -/
theorem launch_claims (c : Dev nD) : (Pipeline.launchCred O₀ c : sProp 𝕄) ⊢ claims (F := F) c := by
  unfold Pipeline.launchCred claims
  rw [bigSep_three, ← launch_bar, ← launch_recv, ← launch_recv, ← launch_recv]
  refine (bigSep_subset (Finset.subset_univ ({SemLoc.reg barS, .dma (recvS 0), .dma (recvS 1), .dma (recvS 2)} : Finset (SemLoc sig)))).trans ?_
  rw [bigSep_eq_bigSepL_of_eq [SemLoc.reg barS, .dma (recvS 0), .dma (recvS 1), .dma (recvS 2)] (by decide) (by decide)]
  exact BI.Entails.refl _

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  iintro ⟨-, Hlev, Hcr, -, HG⟩
  ihave Hc := (launch_claims (F := F) c) $$ Hcr
  imodintro
  unfold start ready
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, ⟨%f, Hr⟩⟩
  isplitl [Hs]; · iexact Hs
  iexists f; rw [rows_univ]; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  rw [bigSep_seven]
  iintro ⟨⟨%f, Hr⟩, HB, HS⟩
  isplitl [HB]; · iexact HB
  isplitl [HS]; · iexact HS
  iexists f; rw [← rows_univ]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (fun u => by fin_cases w <;> fin_cases s <;> rfl) _ (by
      rcases t with ⟨_ | _, ht⟩
      · exact Or.inl rfl
      · exact Or.inr rfl)

/-! ## The run -/

/-- What an array of the program holds in the end. -/
def finalA (c : Dev nD) (w : Fin cfg0.W) : Buf (Elt F) ((cfg0.win w).arr.view.loc (c : Thread nD τ)) := (dats m ρ 0 c).arrAt w cfg0.N

/-- Every array holds that. -/
def Arrays : PUnit × MemSt nD τ sig (Elt F) → Prop := fun r =>
  ∀ c : Dev nD, ∀ w : Fin cfg0.W, r.2.mem ((cfg0.win w).arr.view.loc (c : Thread nD τ)) = finalA m ρ c w

theorem L_of_ne (g : GSem nD τ sig) (h : g.1.2 ≠ .tc) : L g = ∅ := if_neg h

/-- Every fair run of the program from any memory and zero semaphores ends, with every array at its final contents
    and every semaphore at zero. -/
theorem run_arrays : θ_run defs (onTc (τ := τ) (main (F := F))) (s₀ m ρ) (fun r => Arrays m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := make_ready m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.Merge

end
-- ==== Proof.Frames.lean ====
/-
  What a run leaves: device c's result array holds `result` of the devices' input blocks, its input array is unchanged
  and every semaphore is at zero. The three frames follow: the kernel's and the ideal kernel's from that one run, the
  reference's from its operation's run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Merge

open Cert.KernelIdeal Cert.KernelIdeal.Gen
open Idealize.ShloMosaic Idealize.SL.Sem Idealize.ShloMosaic.TcCoe Idealize.ShloMosaic.Pipeline

variable {F : FTy → Type} [FloatOps F]

/-- The devices' input blocks, as the memory holds them before the run. -/
def inputs (m : (ℓ : Loc nD τ sig) → Buf (Elt F) ℓ) (c : Dev nD) : Vec F S128x64 .f32 := m ((c : Thread nD τ).loc main_arg0)

variable (m : (ℓ : Loc nD τ sig) → Buf (Elt F) ℓ) (ρ : Dev nD → PrngReg)

/-- The staged input block is the whole input array of the device. -/
theorem xstg_eq (c : Dev nD) : xstg m ρ c = inputs m c :=
  Memref.read_access_unit_zero (Elt F) main_arg0 (funext fun a => by fin_cases a <;> decide) (fun a => by fin_cases a <;> decide) _

/-- The output array of device c ends holding the result. -/
theorem finalA_out (c : Dev nD) : finalA m ρ c (1 : Fin 2) = result (inputs m) c := by
  have h := (dats (F := F) m ρ 0 c).arrAt_succ (1 : Fin 2) (0 : Fin 1)
  rw [show (cfg0.win (1 : Fin 2)).flush (0 : Fin 1) = true from by decide, if_pos rfl] at h
  have hr : (win0_1.blk (0 : Fin 1)).view.read (Elt F) (finalA m ρ c (1 : Fin 2)) = result (xstg m ρ) c := by
    unfold finalA
    rw [show cfg0.N = ((0 : Fin 1) : Fin cfg0.N).val + 1 from rfl, h]
    exact View.read_write_univ _ _
  rw [show xstg m ρ = inputs m from funext (xstg_eq m ρ)] at hr
  exact (Memref.read_access_unit_zero (Elt F) main_v1 (funext fun a => by fin_cases a <;> decide) (fun a => by fin_cases a <;> decide) _).symm.trans hr

/-- Every fair run of the program: each device's result array ends holding `result` of all the input blocks, its input
    array holds what it held, and every semaphore is at zero. -/
theorem run_main : θ_run defs (onTc (τ := τ) (main (F := F))) ⟨m, fun _ => 0, ρ⟩ (fun r =>
    (∀ c : Dev nD, r.2.mem ((c.tc : Thread nD τ).loc main_v1) = result (inputs m) c
      ∧ r.2.mem ((c.tc : Thread nD τ).loc main_arg0) = m ((c.tc : Thread nD τ).loc main_arg0))
    ∧ r.2.sem = fun _ => 0) :=
  (θ_run defs _ _).mono (fun _ h => ⟨fun c => ⟨(h.1 c (1 : Fin 2)).trans (finalA_out m ρ c), (h.1 c (0 : Fin 2)).trans (finalA_in m ρ c)⟩, h.2⟩)
    (run_arrays m ρ)

/-- The run without its values. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0))
    ∧ r.2.sem = fun _ => 0) :=
  (θ_run defs _ _).mono (fun _ h => ⟨fun c => (h.1 c).2, h.2⟩) (run_main m ρ)

/-- The kernel and the ideal kernel call the same bodies. -/
theorem bodies_same : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (_, _) => rfl

/-- So they have the same table of bodies and regions. -/
theorem defs_same : @Cert.Kernel.defs F _ _ = @Cert.KernelIdeal.defs F _ _ := congrArg (Pipeline.defs Cert.Kernel.pcfgs) bodies_same

/-- The frame of the kernel over the bits. -/
theorem frame_kernel : Cert.quiescent_Kernel := by
  intro m ρ _
  rw [defs_same]
  exact run_frame (F := Bits) m ρ

/-- The frame of the kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The frame of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Merge

end
-- ==== Proof.Places.lean ====
/-
  A column as a sequence. The 256 rows of 128 lanes that the devices exchange hold 64 columns of 512 entries: entry i of
  column k lies in row 64 (i / 128) + i mod 64, in lane k of the left half if bit 6 of i is clear and of the right half
  if it is set. Read so, each compare-exchange of the kernel is one stage of a sorting network on 512 places.
-/
module

public import proofs.«01_k».proof.Proof.Contents
public import Idealize.ShloMosaic.PureOps.Ideal
public import Idealize.ShloMosaic.Lib.KernelVsHost
public import Idealize.ShloMosaic.Lib.SortNet.Sorts

@[expose] public section

set_option maxRecDepth 16384

noncomputable section

namespace Cert.Merge

open Idealize.ShloMosaic Idealize.ShloMosaic.SortNet
open Cert.KernelIdeal Cert.KernelIdeal.Gen

/-! ## Stages from picks -/

/-- A function that takes at every place the greater or the smaller of the place's and its partner's entries, the greater
    at the lower place of a pair where `w` says so, is one stage of the network. -/
theorem stage_of_pick {α : Type} [LinearOrder α] {s : Nat} (hs : s < 9) (w : Fin (2 ^ 9) → Bool)
    (hw : ∀ i, w (partner 9 s i) = w i) (f g : Fin (2 ^ 9) → α)
    (h : ∀ i, g i = if (w i ^^ i.val.testBit s) = true then max (f i) (f (partner 9 s i)) else min (f i) (f (partner 9 s i))) :
    g = Network.apply (stage 9 s w) f := by
  funext i
  rw [h i]
  by_cases hi : i.val &&& 2 ^ s = 0
  · rw [(apply_stage hs w f i hi).1, (and_two_pow_eq_zero_iff_testBit _ _).mp hi, Bool.xor_false]
  · have hb : i.val.testBit s = true := by
      rcases hc : i.val.testBit s with _ | _
      · exact absurd ((and_two_pow_eq_zero_iff_testBit _ _).mpr hc) hi
      · rfl
    have e := (apply_stage hs w f (partner 9 s i) (partner_and_of_set hs i hi)).2
    rw [partner_partner hs, hw] at e
    rw [e, hb, Bool.xor_true, max_comm, min_comm]
    cases w i <;> rfl

/-! ## Rows and lanes of a place -/

/-- The row of a place. -/
def growOf (i : Fin (2 ^ 9)) : Fin 256 :=
  ⟨64 * (i.val / 128) + i.val % 64, by have h : i.val < 512 := i.isLt; omega⟩

/-- The lane of a place in column `k`. -/
def glane (k : Fin 64) (i : Fin (2 ^ 9)) : Fin 128 := ⟨64 * (i.val / 64 % 2) + k.val, by have := k.isLt; omega⟩

/-- Column `k` of 256 rows, as a sequence. -/
def column {α : Type} (k : Fin 64) (W : S256x128.Idx → α) : Fin (2 ^ 9) → α :=
  fun i => W (ix2 (n0 := 256) (n1 := 128) (growOf i) (glane k i))

/-- Arrays of `m` rows one below the other, as far as 256 rows go. -/
def stacked {α : Type} (m : Nat) (hm : 0 < m) (A : Nat → (Rows m).Idx → α) : S256x128.Idx → α :=
  fun i => A ((i 0).val / m) (ix2 (n0 := m) (n1 := 128) ⟨(i 0).val % m, Nat.mod_lt _ hm⟩ (i 1))

/-- Where a place lies in its array of `m` rows. -/
def at' (m : Nat) (hm : 0 < m) (k : Fin 64) (i : Fin (2 ^ 9)) : (Rows m).Idx :=
  ix2 (n0 := m) (n1 := 128) ⟨(growOf i).val % m, Nat.mod_lt _ hm⟩ (glane k i)

theorem column_stacked {α : Type} (m : Nat) (hm : 0 < m) (k : Fin 64) (A : Nat → (Rows m).Idx → α) (i : Fin (2 ^ 9)) :
    column k (stacked m hm A) i = A ((growOf i).val / m) (at' m hm k i) := rfl

/-! ## The two exchanges as stages -/

/-- That rows `2 ^ s` places apart lie in one array of `m` rows, in one lane, and are what the rotations by `j` and `j'`
    bring to each other. -/
def Fits (m s : Nat) (j j' : BitVec 32) : Prop :=
  ∀ i : Fin (2 ^ 9),
    decide (BitVec.ofNat 32 ((growOf i).val % m) &&& j ≠ 0#32) = i.val.testBit s
    ∧ (growOf (partner 9 s i)).val / m = (growOf i).val / m
    ∧ (growOf (partner 9 s i)).val % m
        = (if i.val.testBit s = true then ((growOf i).val % m + m - j.toNat % m) % m else ((growOf i).val % m + m - j'.toNat % m) % m)
    ∧ (partner 9 s i).val / 64 % 2 = i.val / 64 % 2

instance (m s : Nat) (j j' : BitVec 32) : Decidable (Fits m s j j') := inferInstanceAs (Decidable (∀ _ : Fin (2 ^ 9), _))

/-- The row bit of a mask, at an index. -/
theorem hasBit_row (m : Nat) (hi : (Rows m).Iotas .tc 32 [0]) (j : BitVec 32) (x : (Rows m).Idx) :
    hasBit m 0 hi j x = BitVec.ofBool (decide (BitVec.ofNat 32 (x 0).val &&& j ≠ 0#32)) := by
  unfold hasBit cmpi andi iota broadcast
  rw [List.foldl_cons, List.foldl_nil, Nat.zero_mul, Nat.zero_add]
  show BitVec.ofBool (BitVec.ofNat 32 (x 0).val &&& j != 0#32) = _
  congr 1
  exact Bool.eq_iff_iff.mpr (by simp)

/-- The lane bit of a mask, at an index. -/
theorem hasBit_lane (m : Nat) (hi : (Rows m).Iotas .tc 32 [1]) (j : BitVec 32) (x : (Rows m).Idx) :
    hasBit m 1 hi j x = BitVec.ofBool (decide (BitVec.ofNat 32 (x 1).val &&& j ≠ 0#32)) := by
  unfold hasBit cmpi andi iota broadcast
  rw [List.foldl_cons, List.foldl_nil, Nat.zero_mul, Nat.zero_add]
  show BitVec.ofBool (BitVec.ofNat 32 (x 1).val &&& j != 0#32) = _
  congr 1
  exact Bool.eq_iff_iff.mpr (by simp)

/-- A pick at an index, its three conditions read as truth values. -/
theorem pickEx_at (m : Nat) (asc bit : IVec (Rows m) 1) (flip : BitVec 1) (v p : FVec Ideal (Rows m) .f32) (x : (Rows m).Idx)
    (w b : Bool) (hb : bit x = BitVec.ofBool b) (hw : asc x ^^^ flip = BitVec.ofBool (!w)) :
    pickEx m asc bit flip v p x = if (w ^^ b) = true then max (v x) (p x) else min (v x) (p x) := by
  show (if (asc x ^^^ bit x) ^^^ flip = 1#1 then min (v x) (p x) else max (v x) (p x)) = _
  rw [hb, show (asc x ^^^ BitVec.ofBool b) ^^^ flip = (asc x ^^^ flip) ^^^ BitVec.ofBool b by
    rw [BitVec.xor_assoc, BitVec.xor_comm (BitVec.ofBool b), ← BitVec.xor_assoc], hw]
  cases w <;> cases b <;> rfl

variable (k : Fin 64)

/-- A row exchange of every array of a stack is one stage of each column's network. -/
theorem column_rowEx {m s : Nat} (hm : 0 < m) (hs : s < 9) {j j' : BitVec 32} (hf : Fits m s j j')
    (hi : (Rows m).Iotas .tc 32 [0]) (hr : (Rows m).Rotates 0 none) (asc : IVec (Rows m) 1) (flip : Nat → BitVec 1)
    (w : Fin (2 ^ 9) → Bool) (hw : ∀ i, w (partner 9 s i) = w i)
    (ha : ∀ i, asc (at' m hm k i) ^^^ flip ((growOf i).val / m) = BitVec.ofBool (!w i))
    (A : Nat → FVec Ideal (Rows m) .f32) :
    column k (stacked m hm fun b => rowEx m hi hr j j' asc (flip b) (A b))
      = Network.apply (stage 9 s w) (column k (stacked m hm A)) := by
  refine stage_of_pick hs w hw _ _ fun i => ?_
  obtain ⟨h1, h2, h3, h4⟩ := hf i
  have hbit : hasBit m 0 hi j (at' m hm k i) = BitVec.ofBool (i.val.testBit s) := by
    rw [hasBit_row, ← h1]; rfl
  rw [column_stacked, column_stacked, column_stacked, h2]
  unfold rowEx
  rw [pickEx_at m asc _ _ _ _ _ (w i) _ hbit (ha i)]
  have hp : select (hasBit m 0 hi j) (dynamicRotate 0 j none (A ((growOf i).val / m)) hr)
      (dynamicRotate 0 j' none (A ((growOf i).val / m)) hr) (at' m hm k i)
        = A ((growOf i).val / m) (at' m hm k (partner 9 s i)) := by
    have hl : glane k (partner 9 s i) = glane k i := Fin.ext (by show 64 * _ + _ = 64 * _ + _; rw [h4])
    show Scalar.select (hasBit m 0 hi j (at' m hm k i)) _ _ = _
    rw [hbit]
    rcases hb : i.val.testBit s with _ | _
    · rw [hb, if_neg (by decide)] at h3
      show dynamicRotate 0 j' none (A ((growOf i).val / m)) hr (at' m hm k i) = _
      refine dynamicRotate_apply 0 j' _ hr _ _ fun b => ?_
      match b with
      | ⟨0, _⟩ => exact h3
      | ⟨1, _⟩ => exact congrArg Fin.val hl
    · rw [hb, if_pos rfl] at h3
      show dynamicRotate 0 j none (A ((growOf i).val / m)) hr (at' m hm k i) = _
      refine dynamicRotate_apply 0 j _ hr _ _ fun b => ?_
      match b with
      | ⟨0, _⟩ => exact h3
      | ⟨1, _⟩ => exact congrArg Fin.val hl
  rw [hp]

/-- The lane half of a place. -/
theorem lane_bit : ∀ h : Fin 2, ∀ k : Fin 64, decide (BitVec.ofNat 32 (64 * h.val + k.val) &&& 64#32 ≠ 0#32) = decide (h.val = 1) := by
  decide +kernel

/-- Places that differ in bit 6 lie in one row, in the two halves. -/
theorem halves : ∀ i : Fin (2 ^ 9), (partner 9 6 i).val / 128 = i.val / 128 ∧ (partner 9 6 i).val % 64 = i.val % 64
    ∧ (partner 9 6 i).val / 64 % 2 = 1 - i.val / 64 % 2 ∧ i.val.testBit 6 = decide (i.val / 64 % 2 = 1) := by
  decide +kernel

/-- The lane exchange of every array of a stack is the stage between places that differ in bit 6. -/
theorem column_laneEx {m : Nat} (hm : 0 < m)
    (hi : (Rows m).Iotas .tc 32 [1]) (hr : (Rows m).Rotates 1 none) (asc : IVec (Rows m) 1) (flip : Nat → BitVec 1)
    (w : Fin (2 ^ 9) → Bool) (hw : ∀ i, w (partner 9 6 i) = w i)
    (ha : ∀ i, asc (at' m hm k i) ^^^ flip ((growOf i).val / m) = BitVec.ofBool (!w i))
    (A : Nat → FVec Ideal (Rows m) .f32) :
    column k (stacked m hm fun b => laneEx m hi hr asc (flip b) (A b))
      = Network.apply (stage 9 6 w) (column k (stacked m hm A)) := by
  refine stage_of_pick (by decide) w hw _ _ fun i => ?_
  obtain ⟨h1, h2, h3, h4⟩ := halves i
  have hg : growOf (partner 9 6 i) = growOf i := Fin.ext (by show 64 * _ + _ = 64 * _ + _; rw [h1, h2])
  have hbit : hasBit m 1 hi 64#32 (at' m hm k i) = BitVec.ofBool (i.val.testBit 6) := by
    rw [hasBit_lane, h4, ← lane_bit ⟨i.val / 64 % 2, Nat.mod_lt _ (by decide)⟩ k]; rfl
  rw [column_stacked, column_stacked, column_stacked, hg]
  unfold laneEx
  rw [pickEx_at m asc _ _ _ _ _ (w i) _ hbit (ha i)]
  have hp : dynamicRotate 1 64#32 none (A ((growOf i).val / m)) hr (at' m hm k i) = A ((growOf i).val / m) (at' m hm k (partner 9 6 i)) := by
    refine dynamicRotate_apply 1 64#32 _ hr _ _ fun b => ?_
    match b with
    | ⟨0, _⟩ => exact congrArg (fun r : Fin 256 => r.val % m) hg
    | ⟨1, _⟩ =>
      show 64 * ((partner 9 6 i).val / 64 % 2) + k.val = (64 * (i.val / 64 % 2) + k.val + 128 - 64 % 128) % 128
      have := k.isLt
      omega
  rw [hp]

end Cert.Merge

end
-- ==== Proof.Network.lean ====
/-
  The sorting network that the kernel runs on each column of 512 entries, and that it sorts. Its first seven levels sort
  the blocks of 128 entries, upwards in the even blocks and downwards in the odd ones; the last two levels are those of
  the bitonic sort.
-/
module

public import Idealize.ShloMosaic.Lib.SortNet.Sorts

@[expose] public section

set_option maxRecDepth 16384

namespace Cert.Merge

open Idealize.ShloMosaic.SortNet

/-- Where level `l` of the block sorts puts the greater entry first: as in a sort of 128 places, turned round in the odd
    blocks. -/
def blockDir (l : Nat) (i : Fin (2 ^ 9)) : Bool := decide (i.val % 128 &&& 2 ^ (l + 1) = 0) == i.val.testBit 7

/-- Level `l` of the block sorts. -/
def blockLevel (l : Nat) : Network (2 ^ 9) := (List.range (l + 1)).reverse.flatMap fun s => stage 9 s (blockDir l)

/-- All seven levels of the block sorts. -/
def blockNet : Network (2 ^ 9) := (List.range 7).flatMap blockLevel

/-- The whole network: the block sorts, the merges of two blocks, the merge of all. -/
def wholeNet : Network (2 ^ 9) := blockNet ++ (levelNet 9 false 7 ++ levelNet 9 false 8)

/-- Blocks of 128 places among 512. -/
theorem seven_le : 7 ≤ 9 := by decide

/-- Within a block the directions are those of one sort of 128 places, downwards in the odd blocks. -/
theorem blockDir_chunkPos : ∀ (l : Fin 7) (c : Fin (2 ^ (9 - 7))) (j : Fin (2 ^ 7)),
    blockDir l.val (chunkPos seven_le c j) = (decide (j.val &&& 2 ^ (l.val + 1) = 0) == decide (c.val % 2 = 1)) := by
  decide +kernel

variable {α : Type*} [LinearOrder α]

/-- One level of the block sorts, in one block. -/
theorem blockLevel_chunk (l : Fin 7) (v : Fin (2 ^ 9) → α) (c : Fin (2 ^ (9 - 7))) :
    (fun j => Network.apply (blockLevel l.val) v (chunkPos seven_le c j))
      = Network.apply (levelNet 7 (decide (c.val % 2 = 1)) l.val) fun j => v (chunkPos seven_le c j) := by
  funext j
  have hS : ∀ s ∈ (List.range (l.val + 1)).reverse, s < 7 := fun s hs => by
    have := List.mem_range.mp (List.mem_reverse.mp hs)
    have := l.isLt
    omega
  refine (apply_flatMap_stage_chunkPos seven_le _ hS (blockDir l.val) v c j).trans ?_
  rw [show (fun j => blockDir l.val (chunkPos seven_le c j)) = fun j => decide (j.val &&& 2 ^ (l.val + 1) = 0) == decide (c.val % 2 = 1) from
    funext (blockDir_chunkPos l c)]
  rfl

/-- The first levels of the block sorts, in one block, are the first levels of one sort. -/
theorem blockLevels_chunk (c : Fin (2 ^ (9 - 7))) (v : Fin (2 ^ 9) → α) : ∀ n : Nat, n ≤ 7 →
    (fun j => Network.apply ((List.range n).flatMap blockLevel) v (chunkPos seven_le c j))
      = Network.apply (levelsNet 7 (decide (c.val % 2 = 1)) n) fun j => v (chunkPos seven_le c j)
  | 0, _ => rfl
  | n + 1, hn => by
    rw [levelsNet_succ, List.range_succ, List.flatMap_append, List.flatMap_cons, List.flatMap_nil, List.append_nil, Network.apply_append,
      Network.apply_append, ← blockLevels_chunk c v n (by omega)]
    exact blockLevel_chunk ⟨n, by omega⟩ _ c

/-- After the block sorts the even blocks ascend and the odd ones descend. -/
theorem blockNet_sorts (v : Fin (2 ^ 9) → α) (c : Fin (2 ^ (9 - 7))) :
    (c.val % 2 = 0 → Monotone fun j => Network.apply blockNet v (chunkPos seven_le c j))
    ∧ (c.val % 2 = 1 → Antitone fun j => Network.apply blockNet v (chunkPos seven_le c j)) := by
  unfold blockNet
  rw [blockLevels_chunk c v 7 (le_refl 7), ← sortNet_eq_levelsNet]
  constructor
  · intro h; rw [decide_eq_false (by omega)]; exact sortNet_apply_monotone 7 _
  · intro h; rw [decide_eq_true h]; exact sortNet_apply_antitone 7 _

/-- A sequence whose lower half ascends and whose upper half descends. -/
theorem descAsc_of_halves (q : Nat) (v : Fin (2 ^ (q + 1)) → α) (h1 : Monotone fun j => v (lowerPos q j))
    (h2 : Antitone fun j => v (upperPos q j)) : DescAsc v := by
  refine ⟨2 ^ q, Or.inr ⟨fun i j hij hj => ?_, fun i j hij hi => ?_⟩⟩
  · have hi : i.val < 2 ^ q := lt_of_le_of_lt hij hj
    rw [eq_lowerPos i hi, eq_lowerPos j hj]
    exact h1 (show (⟨i.val, hi⟩ : Fin (2 ^ q)) ≤ ⟨j.val, hj⟩ from hij)
  · have hj : ¬ j.val < 2 ^ q := Nat.not_lt.mpr (le_trans hi hij)
    rw [eq_upperPos i (Nat.not_lt.mpr hi), eq_upperPos j hj]
    exact h2 (show i.val - 2 ^ q ≤ j.val - 2 ^ q from Nat.sub_le_sub_right hij _)

/-- The network sorts every sequence. -/
theorem wholeNet_sorts (v : Fin (2 ^ 9) → α) : Monotone (Network.apply wholeNet v) := by
  unfold wholeNet
  rw [Network.apply_append, Network.apply_append]
  have hb := blockNet_sorts v
  generalize Network.apply blockNet v = g at hb ⊢
  have hpair : ∀ c : Fin (2 ^ (9 - (7 + 1))), DescAsc fun j => g (chunkPos (p := 7 + 1) (by decide) c j) := fun c => by
    refine descAsc_of_halves 7 _ ?_ ?_
    · simp only [← chunkPos_two_mul (p := 9) (l := 7) (by decide)]
      exact (hb _).1 (by show 2 * c.val % 2 = 0; omega)
    · simp only [← chunkPos_two_mul_add_one (p := 9) (l := 7) (by decide)]
      exact (hb _).2 (by show (2 * c.val + 1) % 2 = 1; omega)
  have hl := apply_levelNet_chunkPos (p := 9) (l := 7) (by decide) false g
  have h0 : Monotone fun j => Network.apply (levelNet 9 false 7) g (chunkPos (p := 7 + 1) (by decide) ⟨0, by decide⟩ j) := by
    simp only [hl]
    exact mergeAscNet_apply_monotone 8 _ (hpair _)
  have h1 : Antitone fun j => Network.apply (levelNet 9 false 7) g (chunkPos (p := 7 + 1) (by decide) ⟨1, by decide⟩ j) := by
    simp only [hl]
    exact mergeDescNet_apply_antitone 8 _ (hpair _)
  generalize Network.apply (levelNet 9 false 7) g = f at h0 h1 ⊢
  have hf : DescAsc f := by
    refine descAsc_of_halves 8 _ ?_ ?_
    · simp only [← chunkPos_zero_eq_lowerPos 8]; exact h0
    · simp only [← chunkPos_one_eq_upperPos 8]; exact h1
  intro i j hij
  have e : ∀ i, Network.apply (levelNet 9 false 8) f i = Network.apply (mergeAscNet 9) f i := fun i => by
    have h := apply_levelNet_chunkPos (p := 9) (l := 8) (le_refl 9) false f ⟨0, by decide⟩ i
    simp only [chunkPos_self] at h
    exact h
  rw [e, e]
  exact mergeAscNet_apply_monotone 9 f hf hij

end Cert.Merge
-- ==== Proof.Levels.lean ====
/-
  Stages of the network in a row, and the chains of exchanges inside a block of 64 rows as such rows of stages.
-/
module

public import proofs.«01_k».proof.Proof.Places
public import proofs.«01_k».proof.Proof.Network

@[expose] public section

set_option maxRecDepth 16384

noncomputable section

namespace Cert.Merge

open Idealize.ShloMosaic Idealize.ShloMosaic.SortNet
open Cert.KernelIdeal Cert.KernelIdeal.Gen

/-! ## Stages in a row -/

section runs

variable {α : Type} [LinearOrder α]

/-- The stages at distances `S` in turn, all in the directions `w`. -/
def stages (w : Fin (2 ^ 9) → Bool) (S : List Nat) (f : Fin (2 ^ 9) → α) : Fin (2 ^ 9) → α :=
  Network.apply (S.flatMap fun s => stage 9 s w) f

theorem stages_nil (w : Fin (2 ^ 9) → Bool) (f : Fin (2 ^ 9) → α) : stages w [] f = f := rfl

theorem stages_cons (w : Fin (2 ^ 9) → Bool) (s : Nat) (S : List Nat) (f : Fin (2 ^ 9) → α) :
    stages w (s :: S) f = stages w S (Network.apply (stage 9 s w) f) := by
  unfold stages
  rw [List.flatMap_cons, Network.apply_append]

/-- Stages after stages. -/
theorem stages_append (w : Fin (2 ^ 9) → Bool) (S T : List Nat) (f : Fin (2 ^ 9) → α) :
    stages w T (stages w S f) = stages w (S ++ T) f := by
  unfold stages
  rw [List.flatMap_append, Network.apply_append]

/-- One stage more, with its distance in front. -/
theorem stages_one (w : Fin (2 ^ 9) → Bool) (s : Nat) (S : List Nat) (f : Fin (2 ^ 9) → α) :
    stages w S (stages w [s] f) = stages w (s :: S) f := stages_append w [s] S f

/-- A level of the block sorts, as stages. -/
theorem blockLevel_stages (l : Nat) (f : Fin (2 ^ 9) → α) :
    Network.apply (blockLevel l) f = stages (blockDir l) (List.range (l + 1)).reverse f := rfl

/-- The directions of a level of the bitonic sort of all places. -/
def levelDir (l : Nat) (i : Fin (2 ^ 9)) : Bool := decide (i.val &&& 2 ^ (l + 1) = 0) == false

/-- A level of the bitonic sort, as stages. -/
theorem level_stages (l : Nat) (f : Fin (2 ^ 9) → α) :
    Network.apply (levelNet 9 false l) f = stages (levelDir l) (List.range (l + 1)).reverse f := rfl

end runs

/-! ## What fits where -/

theorem pos64 : 0 < 64 := by decide

theorem pos128 : 0 < 128 := by decide

theorem pos256 : 0 < 256 := by decide

theorem fits64 : Fits 64 0 1#32 63#32 ∧ Fits 64 1 2#32 62#32 ∧ Fits 64 2 4#32 60#32 ∧ Fits 64 3 8#32 56#32
    ∧ Fits 64 4 16#32 48#32 ∧ Fits 64 5 32#32 32#32 := by decide +kernel

theorem fits128 : Fits 128 0 1#32 127#32 ∧ Fits 128 1 2#32 126#32 ∧ Fits 128 2 4#32 124#32 ∧ Fits 128 3 8#32 120#32
    ∧ Fits 128 4 16#32 112#32 ∧ Fits 128 5 32#32 96#32 ∧ Fits 128 7 64#32 64#32 := by decide +kernel

theorem fits256 : Fits 256 7 64#32 192#32 ∧ Fits 256 8 128#32 128#32 := by decide +kernel

/-- That a mask and the flips of the arrays together mean the directions `w`. -/
def Means (m : Nat) (hm : 0 < m) (asc : IVec (Rows m) 1) (flip : Nat → BitVec 1) (w : Fin (2 ^ 9) → Bool) : Prop :=
  ∀ (k : Fin 64) (i : Fin (2 ^ 9)), asc (at' m hm k i) ^^^ flip ((growOf i).val / m) = BitVec.ofBool (!w i)

/-- That the directions are the same at partners `2 ^ s` apart, for every `s` up to `l`. -/
def Agrees (w : Fin (2 ^ 9) → Bool) (l : Nat) : Prop := ∀ s : Fin (l + 1), ∀ i, w (partner 9 s.val i) = w i

theorem Agrees.at {w : Fin (2 ^ 9) → Bool} {l : Nat} (h : Agrees w l) (s : Nat) (hs : s ≤ l) : ∀ i, w (partner 9 s i) = w i :=
  h ⟨s, Nat.lt_succ_of_le hs⟩

theorem Agrees.less {w : Fin (2 ^ 9) → Bool} {l m : Nat} (h : Agrees w l) (hm : m ≤ l) : Agrees w m :=
  fun s => h.at s.val (Nat.le_trans (Nat.le_of_lt_succ s.isLt) hm)

/-! ## The chains of a block of 64 rows -/

section block

variable (k : Fin 64) {asc : IVec S64x128 1} {flip : Nat → BitVec 1} {w : Fin (2 ^ 9) → Bool}
  (hm : Means 64 pos64 asc flip w) (A : Nat → FVec Ideal S64x128 .f32)

include hm

/-- One row exchange, for any fitting pair of rotations. -/
theorem column_row {s : Nat} {j j' : BitVec 32} (hs : s < 9) (hf : Fits 64 s j j') (h : Agrees w s) :
    column k (stacked 64 pos64 fun b => rowEx64 j j' asc (flip b) (A b)) = stages w [s] (column k (stacked 64 pos64 A)) := by
  rw [column_rowEx k (s := s) _ hs hf _ _ asc flip w (h.at s (le_refl _)) (hm k), stages_cons, stages_nil]

theorem column_row1 (h : Agrees w 0) : column k (stacked 64 pos64 fun b => rowEx64 1#32 63#32 asc (flip b) (A b))
    = stages w [0] (column k (stacked 64 pos64 A)) := column_row k hm A (by decide) fits64.1 h

theorem column_row2 (h : Agrees w 1) : column k (stacked 64 pos64 fun b => rowEx64 2#32 62#32 asc (flip b) (A b))
    = stages w [1] (column k (stacked 64 pos64 A)) := column_row k hm A (by decide) fits64.2.1 h

theorem column_row4 (h : Agrees w 2) : column k (stacked 64 pos64 fun b => rowEx64 4#32 60#32 asc (flip b) (A b))
    = stages w [2] (column k (stacked 64 pos64 A)) := column_row k hm A (by decide) fits64.2.2.1 h

/-- Exchanges 8, 4, 2, 1. -/
theorem column_down8 (h : Agrees w 3) : column k (stacked 64 pos64 fun b => down8 asc (flip b) (A b))
    = stages w [3, 2, 1, 0] (column k (stacked 64 pos64 A)) := by
  unfold down8
  rw [column_row1 k hm _ (h.less (by decide)), column_row2 k hm _ (h.less (by decide)), column_row4 k hm _ (h.less (by decide)),
    column_row k hm _ (by decide) fits64.2.2.2.1 h, stages_one, stages_one, stages_one]

/-- Exchanges 16 and then 8, 4, 2, 1. -/
theorem column_down16 (h : Agrees w 4) :
    column k (stacked 64 pos64 fun b => down8 asc (flip b) (rowEx64 16#32 48#32 asc (flip b) (A b)))
      = stages w [4, 3, 2, 1, 0] (column k (stacked 64 pos64 A)) := by
  rw [column_down8 k hm _ (h.less (by decide)), column_row k hm _ (by decide) fits64.2.2.2.2.1 h, stages_one]

/-- Exchanges 32, 16, 8, 4, 2, 1. -/
theorem column_down32 (h : Agrees w 5) : column k (stacked 64 pos64 fun b => down32 asc (flip b) (A b))
    = stages w [5, 4, 3, 2, 1, 0] (column k (stacked 64 pos64 A)) := by
  unfold down32
  rw [column_down16 k hm _ (h.less (by decide)), column_row k hm _ (by decide) fits64.2.2.2.2.2 h, stages_one]

end block

/-- The lane exchange and all row exchanges of a block. -/
theorem column_down64 (k : Fin 64) {flip : Nat → BitVec 1} {w : Fin (2 ^ 9) → Bool}
    (hm : Means 64 pos64 (broadcast S64x128 1#1) flip w) (A : Nat → FVec Ideal S64x128 .f32) (h : Agrees w 6) :
    column k (stacked 64 pos64 fun b => down64 (flip b) (A b))
      = stages w [6, 5, 4, 3, 2, 1, 0] (column k (stacked 64 pos64 A)) := by
  unfold down64
  rw [column_down32 k hm _ (h.less (by decide)),
    column_laneEx k _ _ _ (broadcast S64x128 1#1) flip w (h.at 6 (by decide)) (hm k), ← stages_cons]

end Cert.Merge

end
-- ==== Proof.Blocks.lean ====
/-
  The local sorts of the four devices as the block sorts of the network: on every column the chain of exchanges that a
  device runs on its own rows is the sort of its block, upwards on even devices and downwards on odd ones.
-/
module

public import proofs.«01_k».proof.Proof.Levels

@[expose] public section

set_option maxRecDepth 16384

noncomputable section

namespace Cert.Merge

open Idealize.ShloMosaic Idealize.ShloMosaic.SortNet
open Cert.KernelIdeal Cert.KernelIdeal.Gen

/-! ## The local sorts -/

/-- The device with a number. -/
def dev (b : Nat) : Dev nD := ⟨b % 4, Nat.mod_lt _ (by decide)⟩

theorem noBit_row (m : Nat) (hi : (Rows m).Iotas .tc 32 [0]) (j : BitVec 32) (x : (Rows m).Idx) :
    noBit m 0 hi j x = BitVec.ofBool (BitVec.ofNat 32 (x 0).val &&& j == 0#32) := by
  unfold noBit cmpi andi iota broadcast
  rw [List.foldl_cons, List.foldl_nil, Nat.zero_mul, Nat.zero_add]
  rfl

theorem noBit_lane (m : Nat) (hi : (Rows m).Iotas .tc 32 [1]) (j : BitVec 32) (x : (Rows m).Idx) :
    noBit m 1 hi j x = BitVec.ofBool (BitVec.ofNat 32 (x 1).val &&& j == 0#32) := by
  unfold noBit cmpi andi iota broadcast
  rw [List.foldl_cons, List.foldl_nil, Nat.zero_mul, Nat.zero_add]
  rfl

/-- What a row mask must satisfy to mean the directions of level `l` of the block sorts. -/
def UpMeans (l : Nat) (j : BitVec 32) : Prop :=
  ∀ i : Fin (2 ^ 9), BitVec.ofBool (BitVec.ofNat 32 ((growOf i).val % 64) &&& j == 0#32) ^^^ oddWord (dev ((growOf i).val / 64))
    = BitVec.ofBool (!blockDir l i)

instance (l : Nat) (j : BitVec 32) : Decidable (UpMeans l j) := inferInstanceAs (Decidable (∀ _ : Fin (2 ^ 9), _))

theorem upMeans : UpMeans 0 2#32 ∧ UpMeans 1 4#32 ∧ UpMeans 2 8#32 ∧ UpMeans 3 16#32 ∧ UpMeans 4 32#32 := by decide +kernel

theorem means_up {l : Nat} {j : BitVec 32} (h : UpMeans l j) :
    Means 64 pos64 (up j) (fun b => oddWord (dev b)) (blockDir l) := fun k i => by
  unfold up
  rw [noBit_row]
  exact h i

theorem lane_clear : ∀ h : Fin 2, ∀ k : Fin 64, (BitVec.ofNat 32 (64 * h.val + k.val) &&& 64#32 == 0#32) = decide (h.val = 0) := by
  decide +kernel

theorem means_lane : Means 64 pos64 (noBit 64 1 iota_S64x128_d1_w32 64#32) (fun b => oddWord (dev b)) (blockDir 5) := fun k i => by
  rw [noBit_lane]
  have h : ∀ i : Fin (2 ^ 9), BitVec.ofBool (decide (i.val / 64 % 2 = 0)) ^^^ oddWord (dev ((growOf i).val / 64))
    = BitVec.ofBool (!blockDir 5 i) := by decide +kernel
  rw [← h i]
  congr 2
  exact lane_clear ⟨i.val / 64 % 2, Nat.mod_lt _ (by decide)⟩ k

theorem means_all : Means 64 pos64 (broadcast S64x128 1#1) (fun b => oddWord (dev b)) (blockDir 6) := fun k i => by
  have h : ∀ i : Fin (2 ^ 9), 1#1 ^^^ oddWord (dev ((growOf i).val / 64)) = BitVec.ofBool (!blockDir 6 i) := by decide +kernel
  exact h i

theorem blockDir_agrees : ∀ l : Fin 7, ∀ s : Fin (l.val + 1), ∀ i, blockDir l.val (partner 9 s.val i) = blockDir l.val i := by
  decide +kernel

/-- The local sorts of the four blocks are the block sorts of each column. -/
theorem column_local (k : Fin 64) (A : Nat → FVec Ideal S64x128 .f32) :
    column k (stacked 64 pos64 fun b => localChain (oddWord (dev b)) (A b))
      = Network.apply blockNet (column k (stacked 64 pos64 A)) := by
  have hg : ∀ (l : Fin 7) (m : Nat), m ≤ l.val → Agrees (blockDir l.val) m := fun l m hml s => blockDir_agrees l ⟨s.val, by have := s.isLt; omega⟩
  unfold localChain localHigh localMid localLow
  rw [column_down64 k means_all _ (hg 6 6 (by decide)), column_down32 k means_lane _ (hg 5 5 (by decide)),
    column_down16 k (means_up upMeans.2.2.2.2) _ (hg 4 4 (by decide)), column_down8 k (means_up upMeans.2.2.2.1) _ (hg 3 3 (by decide)),
    column_row1 k (means_up upMeans.2.2.1) _ (hg 2 0 (by decide)), column_row2 k (means_up upMeans.2.2.1) _ (hg 2 1 (by decide)),
    column_row4 k (means_up upMeans.2.2.1) _ (hg 2 2 (by decide)),
    column_row1 k (means_up upMeans.2.1) _ (hg 1 0 (by decide)), column_row2 k (means_up upMeans.2.1) _ (hg 1 1 (by decide)),
    column_row1 k (means_up upMeans.1) _ (hg 0 0 (by decide))]
  rw [stages_one, stages_one, stages_one]
  generalize column k (stacked 64 pos64 A) = f
  unfold blockNet
  rw [show List.range 7 = [0, 1, 2, 3, 4, 5, 6] from rfl]
  simp only [List.flatMap_cons, List.flatMap_nil, List.append_nil, Network.apply_append, blockLevel_stages]
  rfl

end Cert.Merge

end
-- ==== Proof.Merges.lean ====
/-
  The two merges of the network: on every column the merges of the two pairs of devices are the level above the block
  sorts, and the exchange over all rows followed by each device's own last exchanges is the last level.
-/
module

public import proofs.«01_k».proof.Proof.Levels

@[expose] public section

set_option maxRecDepth 16384

noncomputable section

namespace Cert.Merge

open Idealize.ShloMosaic Idealize.ShloMosaic.SortNet
open Cert.KernelIdeal Cert.KernelIdeal.Gen

/-! ## The pair merges and the last level -/

/-- The flip of a pair. -/
def pairFlip (b : Nat) : BitVec 1 := Scalar.cmpi .eq (BitVec.ofNat 32 (b % 2)) 1#32

theorem means_pair : Means 128 pos128 (broadcast S128x128 1#1) pairFlip (levelDir 7) := fun k i => by
  have h : ∀ i : Fin (2 ^ 9), 1#1 ^^^ pairFlip ((growOf i).val / 128) = BitVec.ofBool (!levelDir 7 i) := by decide +kernel
  exact h i

theorem levelDir7_agrees : Agrees (levelDir 7) 7 := by
  have h : ∀ s : Fin 8, ∀ i, levelDir 7 (partner 9 s.val i) = levelDir 7 i := by decide +kernel
  exact h

theorem levelDir8_eq : ∀ i, levelDir 8 i = false := by decide +kernel

/-- The merges of the two pairs are the level above the block sorts. -/
theorem column_pair (k : Fin 64) (A : Nat → FVec Ideal S128x128 .f32) :
    column k (stacked 128 pos128 fun b => pairChain (pairFlip b) (A b))
      = Network.apply (levelNet 9 false 7) (column k (stacked 128 pos128 A)) := by
  have ha := levelDir7_agrees
  have row : ∀ {s : Nat} {j j' : BitVec 32} (B : Nat → FVec Ideal S128x128 .f32), s ≤ 7 → Fits 128 s j j' →
      column k (stacked 128 pos128 fun b => rowEx128 j j' (pairFlip b) (B b))
        = stages (levelDir 7) [s] (column k (stacked 128 pos128 B)) := fun B hs hf => by
    rw [column_rowEx k _ (Nat.lt_of_le_of_lt hs (by decide)) hf _ _ _ pairFlip _ (ha.at _ hs) (means_pair k), stages_cons, stages_nil]
  unfold pairChain
  rw [row _ (by decide) fits128.1, row _ (by decide) fits128.2.1, row _ (by decide) fits128.2.2.1, row _ (by decide) fits128.2.2.2.1,
    row _ (by decide) fits128.2.2.2.2.1, row _ (by decide) fits128.2.2.2.2.2.1,
    column_laneEx k _ _ _ _ pairFlip _ (ha.at 6 (by decide)) (means_pair k), row _ (by decide) fits128.2.2.2.2.2.2]
  rw [stages_one, stages_one, stages_one, stages_one, stages_one, ← stages_cons, stages_one, level_stages]
  rfl

/-- The exchange over all rows is the first two stages of the last level. -/
theorem column_whole (k : Fin 64) (v : FVec Ideal S256x128 .f32) :
    column k (wholeChain v) = stages (levelDir 8) [8, 7] (column k v) := by
  have hs : ∀ u : FVec Ideal S256x128 .f32, column k (stacked 256 pos256 fun _ => u) = column k u := fun u => by
    funext i
    have hlt := (growOf i).isLt
    refine congrArg u ?_
    exact congrArg (fun r => ix2 (n0 := 256) (n1 := 128) r (glane k i)) (Fin.ext (Nat.mod_eq_of_lt hlt))
  have hd : ∀ s i, levelDir 8 (partner 9 s i) = levelDir 8 i := fun s i => by rw [levelDir8_eq, levelDir8_eq]
  have hm : Means 256 pos256 (broadcast S256x128 1#1) (fun _ => 0#1) (levelDir 8) := fun k i => by
    rw [levelDir8_eq]
    show 1#1 ^^^ 0#1 = _
    decide
  rw [← hs (wholeChain v), ← hs v]
  unfold wholeChain
  have row : ∀ {s : Nat} {j j' : BitVec 32} (u : FVec Ideal S256x128 .f32), s < 9 → Fits 256 s j j' →
      column k (stacked 256 pos256 fun _ => rowEx256 j j' u)
        = stages (levelDir 8) [s] (column k (stacked 256 pos256 fun _ => u)) := fun u hs hf => by
    rw [column_rowEx k _ hs hf _ _ _ (fun _ => 0#1) _ (hd _) (hm k) (fun _ => u), stages_cons, stages_nil]
  rw [row _ (by decide) fits256.1, hs, ← hs (rowEx256 _ _ v), row _ (by decide) fits256.2, stages_one]

/-- The last exchanges, which each device makes in its own rows, finish the last level. -/
theorem column_last (k : Fin 64) (A : Nat → FVec Ideal S64x128 .f32) :
    column k (stacked 64 pos64 fun b => down64 0#1 (A b))
      = stages (levelDir 8) [6, 5, 4, 3, 2, 1, 0] (column k (stacked 64 pos64 A)) :=
  column_down64 k (flip := fun _ => 0#1) (fun k i => by
    rw [levelDir8_eq]
    show 1#1 ^^^ 0#1 = _
    decide) A fun s i => by rw [levelDir8_eq, levelDir8_eq]

/-- The two together are the last level. -/
theorem last_level (f : Fin (2 ^ 9) → EReal) :
    stages (levelDir 8) [6, 5, 4, 3, 2, 1, 0] (stages (levelDir 8) [8, 7] f) = Network.apply (levelNet 9 false 8) f := by
  rw [stages_append, level_stages]
  rfl

end Cert.Merge

end
-- ==== Proof.Columns.lean ====
/-
  The four devices' results, column by column: read over all four output blocks from the top down, column k of the
  result is what the whole network makes of column k of the inputs.
-/
module

public import proofs.«01_k».proof.Proof.Blocks
public import proofs.«01_k».proof.Proof.Merges

@[expose] public section

set_option maxRecDepth 16384

noncomputable section

namespace Cert.Merge

open Idealize.ShloMosaic Idealize.ShloMosaic.SortNet
open Cert.KernelIdeal Cert.KernelIdeal.Gen

variable (x : Dev nD → Vec Ideal S128x64 .f32) (k : Fin 64)

/-- Column `k` of the inputs, the devices' blocks one below the other. -/
def inputColumn (i : Fin (2 ^ 9)) : EReal :=
  x ⟨i.val / 128, by have h : i.val < 512 := i.isLt; show i.val / 128 < 4; omega⟩
    (ix2 (n0 := 128) (n1 := 64) ⟨i.val % 128, Nat.mod_lt _ (by decide)⟩ k)

/-- The device of a place. -/
theorem dev_row (i : Fin (2 ^ 9)) (h : i.val / 128 < nD) : dev ((growOf i).val / 64) = ⟨i.val / 128, h⟩ := by
  have hi : i.val < 512 := i.isLt
  exact Fin.ext (show (64 * (i.val / 128) + i.val % 64) / 64 % 4 = i.val / 128 by omega)

/-- Two arrays of 64 lanes side by side, at an index. -/
theorem packed_apply (y : Vec Ideal S128x64 .f32) (r : Fin 64) (h : Fin 2) (hl : 64 * h.val + k.val < 128) (hr : 64 * h.val + r.val < 128) :
    k0_pay4 y (ix2 (n0 := 64) (n1 := 128) r ⟨64 * h.val + k.val, hl⟩) = y (ix2 (n0 := 128) (n1 := 64) ⟨64 * h.val + r.val, hr⟩ k) := by
  unfold k0_pay4
  rw [shapeCast_self]
  match h with
  | ⟨0, _⟩ =>
    refine (concatenate_pair_apply_left (t := S64x128) (s₁ := S64x64) (s₂ := S64x64) 1 _ _ _ _ rfl (ix2 (n0 := 64) (n1 := 64) r k) fun b => ?_).trans
      (extractStridedSlice_apply _ _ _ _ _ fun a => ?_)
    · match b with
      | ⟨0, _⟩ => rfl
      | ⟨1, _⟩ => show k.val = 64 * 0 + k.val; omega
    · match a with
      | ⟨0, _⟩ => show 64 * 0 + r.val = 0 + r.val; omega
      | ⟨1, _⟩ => show k.val = 0 + k.val; omega
  | ⟨1, _⟩ =>
    refine (concatenate_pair_apply_right (t := S64x128) (s₁ := S64x64) (s₂ := S64x64) 1 _ _ _ _ rfl rfl (ix2 (n0 := 64) (n1 := 64) r k)
      (fun b hb => ?_) ?_).trans (extractStridedSlice_apply _ _ _ _ _ fun a => ?_)
    · match b with
      | ⟨0, _⟩ => rfl
      | ⟨1, _⟩ => exact absurd rfl hb
    · show k.val + 64 = 64 * 1 + k.val
      omega
    · match a with
      | ⟨0, _⟩ => show 64 * 1 + r.val = 64 + r.val; omega
      | ⟨1, _⟩ => show k.val = 0 + k.val; omega

/-- The packed blocks hold the inputs' columns. -/
theorem column_packed : column k (stacked 64 pos64 fun b => k0_pay4 (x (dev b))) = inputColumn x k := by
  funext i
  have hi : i.val < 512 := i.isLt
  have h4 : i.val / 128 < nD := by show i.val / 128 < 4; omega
  rw [column_stacked, dev_row i h4]
  have hr : (growOf i).val % 64 = i.val % 64 := show (64 * (i.val / 128) + i.val % 64) % 64 = i.val % 64 by omega
  have hk := k.isLt
  refine Eq.trans (congrArg (k0_pay4 (x ⟨i.val / 128, h4⟩)) ?_)
    ((packed_apply k (x ⟨i.val / 128, h4⟩) ⟨i.val % 64, Nat.mod_lt _ (by decide)⟩ ⟨i.val / 64 % 2, Nat.mod_lt _ (by decide)⟩
      (by show 64 * (i.val / 64 % 2) + k.val < 128; omega) (by show 64 * (i.val / 64 % 2) + i.val % 64 < 128; omega)).trans ?_)
  · exact congrArg (fun r => ix2 (n0 := 64) (n1 := 128) r (glane k i)) (Fin.ext hr)
  · exact congrArg (fun r => x ⟨i.val / 128, h4⟩ (ix2 (n0 := 128) (n1 := 64) r k))
      (Fin.ext (show 64 * (i.val / 64 % 2) + i.val % 64 = i.val % 128 by omega))

/-- After the gather the columns are sorted block by block. -/
theorem column_gathered : column k (gathered x) = Network.apply blockNet (inputColumn x k) := by
  have e : gathered x = stacked 64 pos64 fun b => localChain (oddWord (dev b)) (k0_pay4 (x (dev b))) := by
    funext i
    have hi : (i 0).val < 256 := (i 0).isLt
    have ho : ownerOf i = dev ((i 0).val / 64) := Fin.ext (show (i 0).val / 64 = (i 0).val / 64 % 4 by omega)
    unfold gathered
    rw [ho, localVal_eq, shapeCast_self]
    rfl
  rw [e, column_local k fun b => k0_pay4 (x (dev b)), column_packed]

/-- The rows of a pair. -/
theorem pair_rows (p : Nat) : 128 * (p % 2) + 128 ≤ 256 := by omega

/-- The two pairs' rows, one pair below the other, are all rows. -/
theorem stacked_pairs (f : Vec Ideal S256x128 .f32) :
    (stacked 128 pos128 fun p => window (128 * (p % 2)) 128 (pair_rows p) f) = f := by
  funext i
  have hi : (i 0).val < 256 := (i 0).isLt
  refine (congrArg f ?_).trans (congrArg f (ix2_eta i))
  exact congrArg (fun r => ix2 (n0 := 256) (n1 := 128) r (i 1))
    (Fin.ext (show 128 * ((i 0).val / 128 % 2) + (i 0).val % 128 = (i 0).val by omega))

/-- The merged contents are the two pairs' merges, one below the other. -/
theorem merged_stacked :
    merged x = stacked 128 pos128 fun p => pairChain (pairFlip p) (window (128 * (p % 2)) 128 (pair_rows p) (gathered x)) := by
  funext i
  have hi : (i 0).val < 256 := (i 0).isLt
  unfold merged layRows stacked
  rw [nearVal_eq, nearVal_eq, shapeCast_self, shapeCast_self]
  split
  · next h =>
    have h1 : (i 0).val / 128 = 1 := by omega
    rw [h1]
    refine congrArg (fun r => pairChain (pairFlip 1) (window (128 * (1 % 2)) 128 (pair_rows 1) (gathered x)) (ix2 (n0 := 128) (n1 := 128) r (i 1))) ?_
    exact Fin.ext (show (i 0).val - 128 = (i 0).val % 128 by omega)
  · next h =>
    have h0 : (i 0).val / 128 = 0 := by omega
    rw [dif_pos (by omega), h0]
    refine congrArg (fun r => pairChain (pairFlip 0) (window (128 * (0 % 2)) 128 (pair_rows 0) (gathered x)) (ix2 (n0 := 128) (n1 := 128) r (i 1))) ?_
    exact Fin.ext (show (i 0).val - 0 = (i 0).val % 128 by omega)

/-- After the two merges the columns are sorted pair by pair. -/
theorem column_merged : column k (merged x) = Network.apply (levelNet 9 false 7) (column k (gathered x)) := by
  rw [merged_stacked, column_pair k fun p => window (128 * (p % 2)) 128 (pair_rows p) (gathered x), stacked_pairs]

/-- After the exchange over all rows. -/
theorem column_crossed : column k (crossed x) = stages (levelDir 8) [8, 7] (column k (merged x)) := by
  unfold crossed
  rw [wholeVal_eq, shapeCast_self, column_whole]

/-- The devices' own rows, one device's below the other, are all rows. -/
theorem stacked_own (f : Vec Ideal S256x128 .f32) : (stacked 64 pos64 fun b => ownRows (dev b) f) = f := by
  funext i
  have hi : (i 0).val < 256 := (i 0).isLt
  refine (congrArg f ?_).trans (congrArg f (ix2_eta i))
  exact congrArg (fun r => ix2 (n0 := 256) (n1 := 128) r (i 1))
    (Fin.ext (show 64 * ((i 0).val / 64 % 4) + (i 0).val % 64 = (i 0).val by omega))

/-- The last exchanges of all devices leave every column as the whole network does. -/
theorem column_done :
    column k (stacked 64 pos64 fun b => down64 0#1 (ownRows (dev b) (crossed x))) = Network.apply wholeNet (inputColumn x k) := by
  rw [column_last k fun b => ownRows (dev b) (crossed x), stacked_own, column_crossed, last_level, column_merged, column_gathered]
  unfold wholeNet
  rw [Network.apply_append, Network.apply_append]

/-- A result at an index: the left lanes in the upper half, the right lanes in the lower one. -/
theorem result_apply (c : Dev nD) (q : Fin 128) :
    result x c (ix2 (n0 := 128) (n1 := 64) q k) = down64 0#1 (ownRows c (crossed x))
      (ix2 (n0 := 64) (n1 := 128) ⟨q.val % 64, Nat.mod_lt _ (by decide)⟩ ⟨64 * (q.val / 64) + k.val, by have := q.isLt; have := k.isLt; omega⟩) := by
  have hq := q.isLt
  unfold result
  split
  · next h =>
    have h : q.val < 64 := h
    rw [leftVal_eq]
    refine extractStridedSlice_apply _ _ _ _ _ fun a => ?_
    match a with
    | ⟨0, _⟩ => show q.val % 64 = 0 + q.val; omega
    | ⟨1, _⟩ => show 64 * (q.val / 64) + k.val = 0 + k.val; omega
  · next h =>
    have h : ¬ q.val < 64 := h
    rw [rightVal_eq]
    refine extractStridedSlice_apply _ _ _ _ _ fun a => ?_
    match a with
    | ⟨0, _⟩ => show q.val % 64 = 0 + (q.val - 64); omega
    | ⟨1, _⟩ => show 64 * (q.val / 64) + k.val = 64 + k.val; omega

/-- Entry `q` of column `k` of device `c`'s result is entry `128 c + q` of what the network makes of the column. -/
theorem result_column (c : Dev nD) (q : Fin 128) (h : 128 * c.val + q.val < 2 ^ 9) :
    result x c (ix2 (n0 := 128) (n1 := 64) q k) = Network.apply wholeNet (inputColumn x k) ⟨128 * c.val + q.val, h⟩ := by
  have hc : c.val < 4 := c.isLt
  have hq := q.isLt
  rw [result_apply, ← column_done, column_stacked]
  have hd : dev ((growOf ⟨128 * c.val + q.val, h⟩).val / 64) = c :=
    Fin.ext (show (64 * ((128 * c.val + q.val) / 128) + (128 * c.val + q.val) % 64) / 64 % 4 = c.val by omega)
  rw [hd]
  refine congrArg (down64 0#1 (ownRows c (crossed x))) ((ix2_inj _ _ _ _).mpr ⟨Fin.ext ?_, Fin.ext ?_⟩)
  · show q.val % 64 = (64 * ((128 * c.val + q.val) / 128) + (128 * c.val + q.val) % 64) % 64
    omega
  · show 64 * (q.val / 64) + k.val = 64 * ((128 * c.val + q.val) / 64 % 2) + k.val
    omega

end Cert.Merge

end
-- ==== Proof.Reference.lean ====
/-
  What the reference computes over the extended reals: its comparator is the strict order, so each column of its sort is
  the ascending rearrangement of the argument's column; two ascending rearrangements of one sequence are the same.
-/
module

public import proofs.«01_k».proof.ReferenceIdeal
public import Idealize.ShloMosaic.PureOps.Ideal
public import Idealize.ShloMosaic.PureOps.Ideal.Laws
public import Idealize.ShloMosaic.Lib.SortFacts
public import Idealize.ShloMosaic.Lib.Pointwise.Index

@[expose] public section

set_option maxRecDepth 16384

noncomputable section

namespace Cert.Merge

open Idealize.ShloMosaic
open Cert.ReferenceIdeal

/-- The comparator's way of making one of all zeros and of all values that are no numbers changes no extended real. -/
theorem canonical (a : EReal) (z n : EReal) (hz : z = 0) :
    Scalar.select (Ideal.cmp .une a a) n (Scalar.select (Ideal.cmp .oeq a z) z a) = a := by
  have h1 : Ideal.cmp .une a a = 0#1 := by
    show BitVec.ofBool (decide (a ≠ a)) = 0#1
    rw [decide_eq_false (fun h => h rfl)]
    rfl
  rw [h1]
  show Scalar.select (Ideal.cmp .oeq a z) z a = a
  by_cases h : a = z
  · subst h
    unfold Scalar.select
    exact ite_self _
  · have h2 : Ideal.cmp .oeq a z = 0#1 := by
      show BitVec.ofBool (decide (a = z)) = 0#1
      rw [decide_eq_false h]
      rfl
    rw [h2]
    rfl

/-- The comparator is the strict order. -/
theorem comparator_eq (a b : EReal) : comparator_f32_d0 (F := Ideal) a b = BitVec.ofBool (decide (a < b)) := by
  have h : ∀ c : EReal, Scalar.select (Ideal.cmp .une c c) (Ideal.ofBits .f32 0x7FC00000#32)
      (Scalar.select (Ideal.cmp .oeq c (Ideal.ofBits .f32 0x00000000#32)) (Ideal.ofBits .f32 0x00000000#32) c) = c :=
    fun c => canonical c _ _ Ideal.ofBits_zero_f32
  show Ideal.cmp .olt (Scalar.select (Ideal.cmp .une a a) (Ideal.ofBits .f32 0x7FC00000#32)
      (Scalar.select (Ideal.cmp .oeq a (Ideal.ofBits .f32 0x00000000#32)) (Ideal.ofBits .f32 0x00000000#32) a))
    (Scalar.select (Ideal.cmp .une b b) (Ideal.ofBits .f32 0x7FC00000#32)
      (Scalar.select (Ideal.cmp .oeq b (Ideal.ofBits .f32 0x00000000#32)) (Ideal.ofBits .f32 0x00000000#32) b)) = _
  rw [h a, h b]
  rfl

/-- The fiber of a sort by the strict order is an ascending rearrangement of the array's fiber. -/
theorem fiber_sort (s : Shape) (a : Fin s.rank) (cmp : EReal → EReal → BitVec 1) (hcmp : ∀ x y, cmp x y = BitVec.ofBool (decide (x < y)))
    (X : s.Idx → EReal) (j : s.Idx) :
    ∃ σ : Equiv.Perm (Fin (s.size a)), (fun p => Host.sort s a.val cmp X (j.along a p)) = (fun p => X (j.along a p)) ∘ σ
      ∧ Monotone ((fun p => X (j.along a p)) ∘ σ) := by
  have hal : ∀ p q : Fin (s.size a), (j.along a p).along a q = j.along a q := fun p q => Function.update_idem _ _ _
  have hat : ∀ p : Fin (s.size a), (j.along a p) a = p := fun p => Function.update_self _ _ _
  let R : Fin (s.size a) → Fin (s.size a) → Bool := fun p q => decide (X (j.along a p) < X (j.along a q))
  refine ⟨Equiv.ofBijective (sortedFrom R) ⟨sortedFrom_injective R, sortedFrom_surjective R⟩, ?_, ?_⟩
  · funext p
    show Host.sort s a.val cmp X (j.along a p) = X (j.along a (sortedFrom R p))
    unfold Host.sort
    rw [dif_pos a.isLt]
    show X ((j.along a p).along a (sortedFrom (fun q r => cmp (X ((j.along a p).along a q)) (X ((j.along a p).along a r)) == 1#1)
      ((j.along a p) a))) = _
    rw [hal, hat]
    have hR : (fun q r => cmp (X ((j.along a p).along a q)) (X ((j.along a p).along a r)) == 1#1) = R := by
      funext q r
      rw [hal, hal, hcmp]
      show (BitVec.ofBool (decide (X (j.along a q) < X (j.along a r))) == 1#1) = decide (X (j.along a q) < X (j.along a r))
      rcases decide (X (j.along a q) < X (j.along a r)) <;> rfl
    rw [hR]
  · intro p q hpq
    rcases Nat.lt_or_ge p.val q.val with h | h
    · have hn := sortedFrom_noInversion R R (fun a b hab => decide_eq_false (not_lt.mpr (le_of_lt (of_decide_eq_true hab)))) (fun _ _ h => h)
        (fun a b c hab hbc => decide_eq_false (not_lt.mpr (le_trans (not_lt.mp (of_decide_eq_false hbc)) (not_lt.mp (of_decide_eq_false hab))))) p q h
      exact not_lt.mp (of_decide_eq_false hn)
    · rw [show p = q from Fin.ext (Nat.le_antisymm hpq h)]

/-- Column `k` of 512 rows. -/
def tall (X : S512x64.Idx → EReal) (k : Fin 64) (i : Fin (2 ^ 9)) : EReal := X (ix2 (n0 := 512) (n1 := 64) i k)

/-- A column is a fiber along the rows. -/
theorem tall_fiber (X : S512x64.Idx → EReal) (k : Fin 64) :
    tall X k = fun p => X ((ix2 (n0 := 512) (n1 := 64) 0 k : S512x64.Idx).along (0 : Fin 2) p) := by
  funext p
  refine congrArg X (funext fun a => ?_)
  match a with
  | ⟨0, _⟩ => rfl
  | ⟨1, _⟩ => rfl

/-- Each column of the sort is an ascending rearrangement of the column. -/
theorem tall_sort (X : S512x64.Idx → EReal) (k : Fin 64) :
    ∃ σ : Equiv.Perm (Fin (2 ^ 9)), tall (Host.sort S512x64 0 (comparator_f32_d0 (F := Ideal)) X) k = tall X k ∘ σ
      ∧ Monotone (tall X k ∘ σ) := by
  rw [tall_fiber, tall_fiber]
  exact fiber_sort S512x64 (0 : Fin 2) (comparator_f32_d0 (F := Ideal)) comparator_eq X (ix2 (n0 := 512) (n1 := 64) 0 k)

/-- An ascending rearrangement of an ascending sequence is nowhere below it: else the entries up to that place would have
    come from fewer places. -/
theorem ascending_le {n : Nat} {f g : Fin n → EReal} (ρ : Equiv.Perm (Fin n)) (h : ∀ j, f j = g (ρ j)) (mf : Monotone f)
    (mg : Monotone g) (i : Fin n) : g i ≤ f i := by
  by_contra hlt
  have hlt := not_le.mp hlt
  have hm : ∀ j ∈ Finset.univ.filter (fun j : Fin n => j ≤ i), ρ j ∈ Finset.univ.filter (fun j : Fin n => j < i) := fun j hj => by
    have hj := (Finset.mem_filter.mp hj).2
    refine Finset.mem_filter.mpr ⟨Finset.mem_univ _, ?_⟩
    by_contra hge
    have h1 := mg (not_lt.mp hge)
    rw [← h j] at h1
    exact absurd (lt_of_lt_of_le hlt h1) (not_lt.mpr (mf hj))
  have hc := Finset.card_le_card_of_injOn ρ hm (fun a _ b _ e => ρ.injective e)
  have hs : Finset.univ.filter (fun j : Fin n => j < i) ⊂ Finset.univ.filter (fun j : Fin n => j ≤ i) := by
    refine (Finset.ssubset_iff_of_subset fun j hj => ?_).mpr ⟨i, ?_, ?_⟩
    · exact Finset.mem_filter.mpr ⟨Finset.mem_univ _, le_of_lt (Finset.mem_filter.mp hj).2⟩
    · exact Finset.mem_filter.mpr ⟨Finset.mem_univ _, le_refl i⟩
    · exact fun hi => lt_irrefl i (Finset.mem_filter.mp hi).2
  exact absurd (Finset.card_lt_card hs) (not_lt.mpr hc)

/-- Two ascending rearrangements of one sequence are the same. -/
theorem ascending_unique {n : Nat} {f g v : Fin n → EReal} {σ τ : Equiv.Perm (Fin n)} (hf : f = v ∘ σ) (hg : g = v ∘ τ)
    (mf : Monotone f) (mg : Monotone g) : f = g := by
  have e : ∀ {a b : Fin n → EReal} {σ τ : Equiv.Perm (Fin n)}, a = v ∘ σ → b = v ∘ τ → ∀ j, a j = b ((σ.trans τ.symm) j) :=
    fun {a b σ τ} ha hb j => by
      subst ha; subst hb
      show v (σ j) = v (τ (τ.symm (σ j)))
      rw [Equiv.apply_symm_apply]
  exact funext fun i => le_antisymm (ascending_le _ (e hg hf) mg mf i) (ascending_le _ (e hf hg) mf mg i)

end Cert.Merge

end
-- ==== Proof.Algebraic.lean ====
/-
  The value claim: over the extended reals the four devices' results are the four blocks of the reference's sort of the
  whole array.
-/
module

public import proofs.«01_k».proof.Defs
public import proofs.«01_k».proof.Proof.Frames
public import proofs.«01_k».proof.Proof.Columns
public import proofs.«01_k».proof.Proof.Reference

@[expose] public section

set_option maxRecDepth 16384

noncomputable section

namespace Cert.Merge

open Idealize.ShloMosaic Idealize.ShloMosaic.SortNet Idealize.SL.Sem Idealize.ShloMosaic.TcCoe
open Cert.KernelIdeal Cert.KernelIdeal.Gen

/-- The whole array, as the reference holds it. -/
abbrev Whole : Shape := ⟨2, ![512, 64]⟩

/-- Entry (q, k) of block `c` is entry (128 c + q, k) of the whole array. -/
theorem block_entry (X : Whole.Idx → EReal) (c : Fin 4) (q : Fin 128) (k : Fin 64) (h : 128 * c.val + q.val < 2 ^ 9) :
    Layout.block S128x64 Whole 0 4 c X (by decide) (ix2 (n0 := 128) (n1 := 64) q k) = tall X k ⟨128 * c.val + q.val, h⟩ := by
  refine congrArg X (funext fun a => ?_)
  match a with
  | ⟨0, _⟩ => exact Fin.ext (show c.val * 128 + q.val = 128 * c.val + q.val by omega)
  | ⟨1, _⟩ => rfl

/-- When the devices hold the blocks of an array, their columns are the array's. -/
theorem inputColumn_blocks (X : Whole.Idx → EReal) (x : Dev nD → Vec Ideal S128x64 .f32)
    (hx : ∀ c, x c = Layout.block S128x64 Whole 0 4 c X (by decide)) (k : Fin 64) : inputColumn x k = tall X k := by
  funext i
  have hi : i.val < 512 := i.isLt
  unfold inputColumn
  rw [hx, block_entry X _ _ k (show 128 * (i.val / 128) + i.val % 128 < 512 by omega)]
  exact congrArg (tall X k) (Fin.ext (show 128 * (i.val / 128) + i.val % 128 = i.val by omega))

/-- The network's ascending rearrangement of a column is the sort's. -/
theorem network_sort (X : Whole.Idx → EReal) (k : Fin 64) : Network.apply wholeNet (tall X k)
    = tall (Host.sort Cert.ReferenceIdeal.S512x64 0 (Cert.ReferenceIdeal.comparator_f32_d0 (F := Ideal)) X) k := by
  obtain ⟨σ, hσ, mσ⟩ := tall_sort X k
  obtain ⟨τ, hτ⟩ := Network.exists_perm wholeNet (tall X k)
  exact ascending_unique hτ hσ (wholeNet_sorts _) (hσ ▸ mσ)

/-- When the devices hold the blocks of an array, their results are the blocks of its sort. -/
theorem result_blocks (X : Whole.Idx → EReal) (x : Dev nD → Vec Ideal S128x64 .f32)
    (hx : ∀ c, x c = Layout.block S128x64 Whole 0 4 c X (by decide)) (c : Dev nD) :
    result x c = Layout.block S128x64 Whole 0 4 c
      (Host.sort Cert.ReferenceIdeal.S512x64 0 (Cert.ReferenceIdeal.comparator_f32_d0 (F := Ideal)) X) (by decide) := by
  have e : ∀ (q : Fin 128) (k : Fin 64), result x c (ix2 (n0 := 128) (n1 := 64) q k) = Layout.block S128x64 Whole 0 4 c
      (Host.sort Cert.ReferenceIdeal.S512x64 0 (Cert.ReferenceIdeal.comparator_f32_d0 (F := Ideal)) X) (by decide)
      (ix2 (n0 := 128) (n1 := 64) q k) := fun q k => by
    have hc : c.val < 4 := c.isLt
    have hq := q.isLt
    have h : 128 * c.val + q.val < 2 ^ 9 := show _ < 512 by omega
    rw [result_column x k c q h, inputColumn_blocks X x hx, network_sort, block_entry _ c q k h]
  funext i
  rw [eq_ix2 (n0 := 128) (n1 := 64) i]
  exact e (i 0) (i 1)

/-- The ideal kernel computes the reference's sort. -/
theorem algebraic : Cert.algebraic_KernelIdeal_ReferenceIdeal := fun m g m' g' _ hx =>
  ⟨_, (θ_run Cert.KernelIdeal.defs _ _).mono
      (fun r h c => ⟨(h.1 c).1.trans (result_blocks _ (inputs m) hx c), (h.1 c).2⟩) (run_main (F := Ideal) m g),
    (θ_run Cert.ReferenceIdeal.defs _ _).mono (fun r h => ⟨(h 0).1, (h 0).2⟩) (Cert.ReferenceIdeal.Value.run (F := Ideal) m' g')⟩

end Cert.Merge

end
-- ==== Proof.lean ====
/-
  The whole claim: the frames of the kernel, of the ideal kernel and of the reference, that the ideal kernel is the kernel,
  and that its four results are the blocks of the reference's sort.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Merge.frame_kernel, Cert.Merge.frame_ideal, Cert.Merge.frame_reference, trivial, Cert.Merge.algebraic⟩

end Cert.Proof

end
